-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x50 : Shape := ⟨2, ![16384, 50]⟩
abbrev S1000000x64 : Shape := ⟨2, ![1000000, 64]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : IVec S16384x50 32) (main_arg1 : FVec F S1000000x64 .f32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 1000000#32
  let main_v2 : IVec S16384x50 32 := broadcastInDim S16384x50 ![] bcast_S_S16384x50 main_c_0
  let main_v3 : IVec S16384x50 1 := cmpi .slt main_arg0 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  main_v5
-- ==== Kernel.lean ====
abbrev S16384x50 : Shape := ⟨2, ![16384, 50]⟩
abbrev S1000000x64 : Shape := ⟨2, ![1000000, 64]⟩
abbrev S_ : Shape := ⟨0, ![]⟩
abbrev S1x50 : Shape := ⟨2, ![1, 50]⟩
abbrev S1x0x50 : Shape := ⟨3, ![1, 0, 50]⟩
abbrev S0x50 : Shape := ⟨2, ![0, 50]⟩
abbrev S16384x1 : Shape := ⟨2, ![16384, 1]⟩
abbrev S16384x1x0 : Shape := ⟨3, ![16384, 1, 0]⟩
abbrev S16384x0 : Shape := ⟨2, ![16384, 0]⟩
abbrev S16384x1x6 : Shape := ⟨3, ![16384, 1, 6]⟩
abbrev S16384x6 : Shape := ⟨2, ![16384, 6]⟩
abbrev S16384x56 : Shape := ⟨2, ![16384, 56]⟩
abbrev S917504 : Shape := ⟨1, ![917504]⟩
abbrev S1000000x128 : Shape := ⟨2, ![1000000, 128]⟩
abbrev S917504x128 : Shape := ⟨2, ![917504, 128]⟩
abbrev S28672 : Shape := ⟨1, ![28672]⟩
abbrev S4x112x128 : Shape := ⟨3, ![4, 112, 128]⟩
abbrev S1x112x128 : Shape := ⟨3, ![1, 112, 128]⟩
abbrev S112x128 : Shape := ⟨2, ![112, 128]⟩
abbrev S112 : Shape := ⟨1, ![112]⟩
abbrev S16384x56x128 : Shape := ⟨3, ![16384, 56, 128]⟩
abbrev S16384x50x64 : Shape := ⟨3, ![16384, 50, 64]⟩

abbrev nBuf : Table → Nat
  | .hbm => 24
  | .local .scVector .vmem => 2
  | _ => 0

abbrev bufTy : (tb : Table) → Fin (nBuf tb) → BufTy
  | .hbm, ⟨0, _⟩ => ⟨S16384x50, .i32⟩
  | .hbm, ⟨1, _⟩ => ⟨S1000000x64, .f32⟩
  | .hbm, ⟨2, _⟩ => ⟨S_, .i32⟩
  | .hbm, ⟨3, _⟩ => ⟨S1x50, .i32⟩
  | .hbm, ⟨4, _⟩ => ⟨S1x0x50, .i32⟩
  | .hbm, ⟨5, _⟩ => ⟨S0x50, .i32⟩
  | .hbm, ⟨6, _⟩ => ⟨S1x50, .i32⟩
  | .hbm, ⟨7, _⟩ => ⟨S1x0x50, .i32⟩
  | .hbm, ⟨8, _⟩ => ⟨S0x50, .i32⟩
  | .hbm, ⟨9, _⟩ => ⟨S16384x50, .i32⟩
  | .hbm, ⟨10, _⟩ => ⟨S16384x1, .i32⟩
  | .hbm, ⟨11, _⟩ => ⟨S16384x1x0, .i32⟩
  | .hbm, ⟨12, _⟩ => ⟨S16384x0, .i32⟩
  | .hbm, ⟨13, _⟩ => ⟨S16384x1, .i32⟩
  | .hbm, ⟨14, _⟩ => ⟨S16384x1x6, .i32⟩
  | .hbm, ⟨15, _⟩ => ⟨S16384x6, .i32⟩
  | .hbm, ⟨16, _⟩ => ⟨S16384x56, .i32⟩
  | .hbm, ⟨17, _⟩ => ⟨S917504, .i32⟩
  | .hbm, ⟨18, _⟩ => ⟨S_, .i32⟩
  | .hbm, ⟨19, _⟩ => ⟨S_, .f32⟩
  | .hbm, ⟨20, _⟩ => ⟨S1000000x128, .f32⟩
  | .hbm, ⟨21, _⟩ => ⟨S917504x128, .f32⟩
  | .hbm, ⟨22, _⟩ => ⟨S16384x56x128, .f32⟩
  | .hbm, ⟨23, _⟩ => ⟨S16384x50x64, .f32⟩
  | .local .scVector .vmem, ⟨0, _⟩ => ⟨S28672, .i32⟩
  | .local .scVector .vmem, ⟨1, _⟩ => ⟨S4x112x128, .f32⟩
  | _, _ => ⟨S16384x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_call1_v0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v2_scv : Ref sig .scVector := ⟨.hbm, 20, rfl⟩
abbrev main_v1_scv : Ref sig .scVector := ⟨.hbm, 17, rfl⟩
abbrev main_v3_scv : Ref sig .scVector := ⟨.hbm, 21, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28672_i32 : BitVec 32 := 28672#32
  let v2 : BitVec 32 := Scalar.muli v1 c28672_i32
  ![v2.toNat]
@[reducible] def k0_t1_loop : Scf.Loop 32 :=
  let c0_i32_9 : BitVec 32 := 0#32
  let c64_i32 : BitVec 32 := 64#32
  let v11 : BitVec 32 := Scalar.addi c0_i32_9 c64_i32
  let c1_i32_10 : BitVec 32 := 1#32
  ⟨c0_i32_9, v11, c1_i32_10⟩
def k0_off2 (k0_t1 : Fin k0_t1_loop.trips) (c0_i32_27 : BitVec 32) : Fin 1 → Nat :=
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32 : BitVec 32 := 4#32
  let v28 : BitVec 32 := Scalar.muli v27 c4_i32
  let v29 : BitVec 32 := Scalar.addi v28 c0_i32_27
  let c112_i32_28 : BitVec 32 := 112#32
  let v30 : BitVec 32 := Scalar.muli v29 c112_i32_28
  ![v30.toNat]
def k0_off3 (i : grid0.Coords) (k0_t1 : Fin k0_t1_loop.trips) (c0_i32_27 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28672_i32 : BitVec 32 := 28672#32
  let v2 : BitVec 32 := Scalar.muli v1 c28672_i32
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32 : BitVec 32 := 4#32
  let v28 : BitVec 32 := Scalar.muli v27 c4_i32
  let v29 : BitVec 32 := Scalar.addi v28 c0_i32_27
  let c112_i32_34 : BitVec 32 := 112#32
  let v35 : BitVec 32 := Scalar.muli v29 c112_i32_34
  let v36 : BitVec 32 := Scalar.addi v2 v35
  let c0_i32_38 : BitVec 32 := 0#32
  ![v36.toNat, 0]
def k0_cond1 (k0_t1 : Fin k0_t1_loop.trips) : BitVec 1 :=
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32 : BitVec 32 := 4#32
  let v28 : BitVec 32 := Scalar.muli v27 c4_i32
  let c0_i32_27 : BitVec 32 := 0#32
  let v29 : BitVec 32 := Scalar.addi v28 c0_i32_27
  let c2_i32_42 : BitVec 32 := 2#32
  let v43 : BitVec 1 := Scalar.cmpi .sge v29 c2_i32_42
  let v44 : BitVec 32 := Scalar.extui v43
  let c0_i32_43 : BitVec 32 := 0#32
  let v45 : BitVec 1 := Scalar.cmpi .ne v44 c0_i32_43
  v45

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28672_i32 : BitVec 32 := 28672#32
  let v2 : BitVec 32 := Scalar.muli v1 c28672_i32
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32 : BitVec 32 := 4#32
  let v28 : BitVec 32 := Scalar.muli v27 c4_i32
  let c0_i32_27 : BitVec 32 := 0#32
  let v29 : BitVec 32 := Scalar.addi v28 c0_i32_27
  let c2_i32_109 : BitVec 32 := 2#32
  let v116 : BitVec 32 := Scalar.subi v29 c2_i32_109
  let c112_i32_110 : BitVec 32 := 112#32
  let v117 : BitVec 32 := Scalar.muli v116 c112_i32_110
  let v118 : BitVec 32 := Scalar.addi v2 v117
  let c0_i32_114 : BitVec 32 := 0#32
  ![v118.toNat, 0]
def k0_cond2 (k0_t1 : Fin k0_t1_loop.trips) : BitVec 1 :=
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32 : BitVec 32 := 4#32
  let v28 : BitVec 32 := Scalar.muli v27 c4_i32
  let c0_i32_27 : BitVec 32 := 0#32
  let v29 : BitVec 32 := Scalar.addi v28 c0_i32_27
  let c2_i32_44 : BitVec 32 := 2#32
  let v46 : BitVec 32 := Scalar.addi v29 c2_i32_44
  let c256_i32 : BitVec 32 := 256#32
  let v47 : BitVec 1 := Scalar.cmpi .slt v46 c256_i32
  let v48 : BitVec 32 := Scalar.extui v47
  let c0_i32_45 : BitVec 32 := 0#32
  let v49 : BitVec 1 := Scalar.cmpi .ne v48 c0_i32_45
  v49

def k0_off5 (k0_t1 : Fin k0_t1_loop.trips) : Fin 1 → Nat :=
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32 : BitVec 32 := 4#32
  let v28 : BitVec 32 := Scalar.muli v27 c4_i32
  let c0_i32_27 : BitVec 32 := 0#32
  let v29 : BitVec 32 := Scalar.addi v28 c0_i32_27
  let c2_i32_109 : BitVec 32 := 2#32
  let v116 : BitVec 32 := Scalar.addi v29 c2_i32_109
  let c112_i32_110 : BitVec 32 := 112#32
  let v117 : BitVec 32 := Scalar.muli v116 c112_i32_110
  ![v117.toNat]
def k0_cond3 (k0_t1 : Fin k0_t1_loop.trips) : BitVec 1 :=
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32_46 : BitVec 32 := 4#32
  let v50 : BitVec 32 := Scalar.muli v27 c4_i32_46
  let c1_i32_47 : BitVec 32 := 1#32
  let v51 : BitVec 32 := Scalar.addi v50 c1_i32_47
  let c2_i32_62 : BitVec 32 := 2#32
  let v65 : BitVec 1 := Scalar.cmpi .sge v51 c2_i32_62
  let v66 : BitVec 32 := Scalar.extui v65
  let c0_i32_63 : BitVec 32 := 0#32
  let v67 : BitVec 1 := Scalar.cmpi .ne v66 c0_i32_63
  v67

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28672_i32 : BitVec 32 := 28672#32
  let v2 : BitVec 32 := Scalar.muli v1 c28672_i32
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32_46 : BitVec 32 := 4#32
  let v50 : BitVec 32 := Scalar.muli v27 c4_i32_46
  let c1_i32_47 : BitVec 32 := 1#32
  let v51 : BitVec 32 := Scalar.addi v50 c1_i32_47
  let c2_i32_109 : BitVec 32 := 2#32
  let v116 : BitVec 32 := Scalar.subi v51 c2_i32_109
  let c112_i32_110 : BitVec 32 := 112#32
  let v117 : BitVec 32 := Scalar.muli v116 c112_i32_110
  let v118 : BitVec 32 := Scalar.addi v2 v117
  let c0_i32_114 : BitVec 32 := 0#32
  ![v118.toNat, 0]
def k0_cond4 (k0_t1 : Fin k0_t1_loop.trips) : BitVec 1 :=
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32_46 : BitVec 32 := 4#32
  let v50 : BitVec 32 := Scalar.muli v27 c4_i32_46
  let c1_i32_47 : BitVec 32 := 1#32
  let v51 : BitVec 32 := Scalar.addi v50 c1_i32_47
  let c2_i32_64 : BitVec 32 := 2#32
  let v68 : BitVec 32 := Scalar.addi v51 c2_i32_64
  let c256_i32_65 : BitVec 32 := 256#32
  let v69 : BitVec 1 := Scalar.cmpi .slt v68 c256_i32_65
  let v70 : BitVec 32 := Scalar.extui v69
  let c0_i32_66 : BitVec 32 := 0#32
  let v71 : BitVec 1 := Scalar.cmpi .ne v70 c0_i32_66
  v71

def k0_off7 (k0_t1 : Fin k0_t1_loop.trips) : Fin 1 → Nat :=
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32_46 : BitVec 32 := 4#32
  let v50 : BitVec 32 := Scalar.muli v27 c4_i32_46
  let c1_i32_47 : BitVec 32 := 1#32
  let v51 : BitVec 32 := Scalar.addi v50 c1_i32_47
  let c2_i32_109 : BitVec 32 := 2#32
  let v116 : BitVec 32 := Scalar.addi v51 c2_i32_109
  let c112_i32_110 : BitVec 32 := 112#32
  let v117 : BitVec 32 := Scalar.muli v116 c112_i32_110
  ![v117.toNat]
def k0_cond5 (k0_t1 : Fin k0_t1_loop.trips) : BitVec 1 :=
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32_67 : BitVec 32 := 4#32
  let v72 : BitVec 32 := Scalar.muli v27 c4_i32_67
  let c2_i32_68 : BitVec 32 := 2#32
  let v73 : BitVec 32 := Scalar.addi v72 c2_i32_68
  let c2_i32_83 : BitVec 32 := 2#32
  let v87 : BitVec 1 := Scalar.cmpi .sge v73 c2_i32_83
  let v88 : BitVec 32 := Scalar.extui v87
  let c0_i32_84 : BitVec 32 := 0#32
  let v89 : BitVec 1 := Scalar.cmpi .ne v88 c0_i32_84
  v89

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28672_i32 : BitVec 32 := 28672#32
  let v2 : BitVec 32 := Scalar.muli v1 c28672_i32
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32_67 : BitVec 32 := 4#32
  let v72 : BitVec 32 := Scalar.muli v27 c4_i32_67
  let c2_i32_68 : BitVec 32 := 2#32
  let v73 : BitVec 32 := Scalar.addi v72 c2_i32_68
  let c2_i32_109 : BitVec 32 := 2#32
  let v116 : BitVec 32 := Scalar.subi v73 c2_i32_109
  let c112_i32_110 : BitVec 32 := 112#32
  let v117 : BitVec 32 := Scalar.muli v116 c112_i32_110
  let v118 : BitVec 32 := Scalar.addi v2 v117
  let c0_i32_114 : BitVec 32 := 0#32
  ![v118.toNat, 0]
def k0_cond6 (k0_t1 : Fin k0_t1_loop.trips) : BitVec 1 :=
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32_67 : BitVec 32 := 4#32
  let v72 : BitVec 32 := Scalar.muli v27 c4_i32_67
  let c2_i32_68 : BitVec 32 := 2#32
  let v73 : BitVec 32 := Scalar.addi v72 c2_i32_68
  let c2_i32_85 : BitVec 32 := 2#32
  let v90 : BitVec 32 := Scalar.addi v73 c2_i32_85
  let c256_i32_86 : BitVec 32 := 256#32
  let v91 : BitVec 1 := Scalar.cmpi .slt v90 c256_i32_86
  let v92 : BitVec 32 := Scalar.extui v91
  let c0_i32_87 : BitVec 32 := 0#32
  let v93 : BitVec 1 := Scalar.cmpi .ne v92 c0_i32_87
  v93

def k0_off9 (k0_t1 : Fin k0_t1_loop.trips) : Fin 1 → Nat :=
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32_67 : BitVec 32 := 4#32
  let v72 : BitVec 32 := Scalar.muli v27 c4_i32_67
  let c2_i32_68 : BitVec 32 := 2#32
  let v73 : BitVec 32 := Scalar.addi v72 c2_i32_68
  let c2_i32_109 : BitVec 32 := 2#32
  let v116 : BitVec 32 := Scalar.addi v73 c2_i32_109
  let c112_i32_110 : BitVec 32 := 112#32
  let v117 : BitVec 32 := Scalar.muli v116 c112_i32_110
  ![v117.toNat]
def k0_cond7 (k0_t1 : Fin k0_t1_loop.trips) : BitVec 1 :=
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32_88 : BitVec 32 := 4#32
  let v94 : BitVec 32 := Scalar.muli v27 c4_i32_88
  let c3_i32_89 : BitVec 32 := 3#32
  let v95 : BitVec 32 := Scalar.addi v94 c3_i32_89
  let c2_i32_104 : BitVec 32 := 2#32
  let v109 : BitVec 1 := Scalar.cmpi .sge v95 c2_i32_104
  let v110 : BitVec 32 := Scalar.extui v109
  let c0_i32_105 : BitVec 32 := 0#32
  let v111 : BitVec 1 := Scalar.cmpi .ne v110 c0_i32_105
  v111

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28672_i32 : BitVec 32 := 28672#32
  let v2 : BitVec 32 := Scalar.muli v1 c28672_i32
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32_88 : BitVec 32 := 4#32
  let v94 : BitVec 32 := Scalar.muli v27 c4_i32_88
  let c3_i32_89 : BitVec 32 := 3#32
  let v95 : BitVec 32 := Scalar.addi v94 c3_i32_89
  let c2_i32_109 : BitVec 32 := 2#32
  let v116 : BitVec 32 := Scalar.subi v95 c2_i32_109
  let c112_i32_110 : BitVec 32 := 112#32
  let v117 : BitVec 32 := Scalar.muli v116 c112_i32_110
  let v118 : BitVec 32 := Scalar.addi v2 v117
  let c0_i32_114 : BitVec 32 := 0#32
  ![v118.toNat, 0]
def k0_cond8 (k0_t1 : Fin k0_t1_loop.trips) : BitVec 1 :=
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32_88 : BitVec 32 := 4#32
  let v94 : BitVec 32 := Scalar.muli v27 c4_i32_88
  let c3_i32_89 : BitVec 32 := 3#32
  let v95 : BitVec 32 := Scalar.addi v94 c3_i32_89
  let c2_i32_106 : BitVec 32 := 2#32
  let v112 : BitVec 32 := Scalar.addi v95 c2_i32_106
  let c256_i32_107 : BitVec 32 := 256#32
  let v113 : BitVec 1 := Scalar.cmpi .slt v112 c256_i32_107
  let v114 : BitVec 32 := Scalar.extui v113
  let c0_i32_108 : BitVec 32 := 0#32
  let v115 : BitVec 1 := Scalar.cmpi .ne v114 c0_i32_108
  v115

def k0_off11 (k0_t1 : Fin k0_t1_loop.trips) : Fin 1 → Nat :=
  let c0_i32_26 : BitVec 32 := 0#32
  let c0_i32_9 : BitVec 32 := 0#32
  let c1_i32_10 : BitVec 32 := 1#32
  let arg15 : BitVec 32 := Scf.iv c0_i32_9 c1_i32_10 k0_t1
  let c1_i32_25 : BitVec 32 := 1#32
  let v26 : BitVec 32 := Scalar.muli arg15 c1_i32_25
  let v27 : BitVec 32 := Scalar.addi c0_i32_26 v26
  let c4_i32_88 : BitVec 32 := 4#32
  let v94 : BitVec 32 := Scalar.muli v27 c4_i32_88
  let c3_i32_89 : BitVec 32 := 3#32
  let v95 : BitVec 32 := Scalar.addi v94 c3_i32_89
  let c2_i32_109 : BitVec 32 := 2#32
  let v116 : BitVec 32 := Scalar.addi v95 c2_i32_109
  let c112_i32_110 : BitVec 32 := 112#32
  let v117 : BitVec 32 := Scalar.muli v116 c112_i32_110
  ![v117.toNat]
def k0_off12 (i : grid0.Coords) (c28448_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28672_i32 : BitVec 32 := 28672#32
  let v2 : BitVec 32 := Scalar.muli v1 c28672_i32
  let v12 : BitVec 32 := Scalar.addi v2 c28448_i32
  let c0_i32_15 : BitVec 32 := 0#32
  ![v12.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x50 : Shape := ⟨2, ![16384, 50]⟩
abbrev S1000000x64 : Shape := ⟨2, ![1000000, 64]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x64 : Shape := ⟨3, ![16384, 50, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000000x64, .f32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S1, .i32⟩
  | .hbm, ⟨11, _⟩ => ⟨S_, .i32⟩
  | .hbm, ⟨12, _⟩ => ⟨S16384x50x1, .i32⟩
  | .hbm, ⟨13, _⟩ => ⟨S16384x50x1, .i1⟩
  | .hbm, ⟨14, _⟩ => ⟨S1x1x1, .i32⟩
  | .hbm, ⟨15, _⟩ => ⟨S16384x50x1, .i32⟩
  | .hbm, ⟨16, _⟩ => ⟨S16384x50x1, .i1⟩
  | .hbm, ⟨17, _⟩ => ⟨S16384x50x1, .i1⟩
  | .hbm, ⟨18, _⟩ => ⟨S_, .i1⟩
  | .hbm, ⟨19, _⟩ => ⟨S16384x50, .i1⟩
  | .hbm, ⟨20, _⟩ => ⟨S16384x50x64, .f32⟩
  | .hbm, ⟨21, _⟩ => ⟨S16384x50x64, .i1⟩
  | .hbm, ⟨22, _⟩ => ⟨S_, .f32⟩
  | .hbm, ⟨23, _⟩ => ⟨S16384x50x64, .f32⟩
  | .hbm, ⟨24, _⟩ => ⟨S16384x50x64, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Base.lean ====
/-
  Set-up for the row-lookup kernel: the program as the SparseCore launch theorem sees it, the buffers and the pieces of
  them a tile addresses, and what those pieces are as sets of indices.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Scf
public import Idealize.ShloMosaic.Lib.Tactic
public import Idealize.ShloMosaic.Lib.Pointwise.Index
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The padded table, the flattened padded row numbers and the looked-up rows, in HBM. -/
abbrev tLoc (d : Dev nD) : Loc nD τ sig := (SparseCore.T d).loc main_v2
abbrev iLoc (d : Dev nD) : Loc nD τ sig := (SparseCore.T d).loc main_v1
abbrev oLoc (d : Dev nD) : Loc nD τ sig := (SparseCore.T d).loc main_v3

local notation "tV" => (Memref.whole Cert.KernelIdeal.main_v2_scv : Memref Cert.KernelIdeal.sig Kind.scVector Space.hbm Cert.KernelIdeal.S1000000x128 EltTy.f32)
local notation "iV" => (Memref.whole Cert.KernelIdeal.main_v1_scv : Memref Cert.KernelIdeal.sig Kind.scVector Space.hbm Cert.KernelIdeal.S917504 EltTy.i32)
local notation "oV" => (Memref.whole Cert.KernelIdeal.main_v3_scv : Memref Cert.KernelIdeal.sig Kind.scVector Space.hbm Cert.KernelIdeal.S917504x128 EltTy.f32)
local notation "sV" => (Memref.whole Cert.KernelIdeal.cc0_scratch0 : Memref Cert.KernelIdeal.sig Kind.scVector Space.vmem Cert.KernelIdeal.S28672 EltTy.i32)
local notation "rV" => (Memref.whole Cert.KernelIdeal.cc0_scratch1 : Memref Cert.KernelIdeal.sig Kind.scVector Space.vmem Cert.KernelIdeal.S4x112x128 EltTy.f32)

abbrev cV (L : grid0.Coords) : Fin τ.nSC := (L 0).castLE hcore0
abbrev jV (L : grid0.Coords) : Fin τ.nSub := (L 1).castLE hsub0
/-- The tile `(L 0, L 1)` of device `d`, and its two scratch buffers. -/
abbrev thr (d : Dev nD) (L : grid0.Coords) : Thread nD τ := V d (cV L) (jV L)
abbrev sLoc (d : Dev nD) (L : grid0.Coords) : Loc nD τ sig := (thr d L).loc cc0_scratch0
abbrev rLoc (d : Dev nD) (L : grid0.Coords) : Loc nD τ sig := (thr d L).loc cc0_scratch1

/-! ## The memrefs a tile forms, over the offset vector each is cut at -/

/-- Slot of the row ring, squeezed to a block of 112 rows. -/
abbrev slotM (o : Fin 3 → ℕ) (h : ∀ a, o a + S1x112x128.size a ≤ S4x112x128.size a) : Memref sig .scVector .vmem S112x128 .f32 :=
  ((rV).slice (Rect.unit (s := S4x112x128) o S1x112x128.size h) (fun _ => rfl)).squeeze S112x128 squeezes_S1x112x128_S112x128
/-- A block of 112 rows of the result. -/
abbrev outM (o : Fin 2 → ℕ) (h : ∀ a, o a + S112x128.size a ≤ S917504x128.size a) : Memref sig .scVector .hbm S112x128 .f32 :=
  (oV).slice (Rect.unit (s := S917504x128) o S112x128.size h) (fun _ => rfl)
/-- 112 consecutive row numbers of the tile's list. -/
abbrev listM (o : Fin 1 → ℕ) (h : ∀ a, o a + S112.size a ≤ S28672.size a) : Memref sig .scVector .vmem S112 .i32 :=
  (sV).slice (Rect.unit (s := S28672) o S112.size h) (fun _ => rfl)
/-- The whole table, as the gathers name it. -/
abbrev tblM (h : ∀ a, (![0, 0] : Fin 2 → ℕ) a + S1000000x128.size a ≤ S1000000x128.size a) : Memref sig .scVector .hbm S1000000x128 .f32 :=
  (tV).slice (Rect.unit (s := S1000000x128) ![0, 0] S1000000x128.size h) (fun _ => rfl)
/-- The tile's block of the flattened row numbers. -/
abbrev inM (o : Fin 1 → ℕ) (h : ∀ a, o a + S28672.size a ≤ S917504.size a) : Memref sig .scVector .hbm S28672 .i32 :=
  (iV).slice (Rect.unit (s := S917504) o S28672.size h) (fun _ => rfl)

/-! ## The sets of indices they cover -/

/-- Rows `lo ≤ r < hi` of the result. -/
def rng (lo hi : ℕ) : Finset S917504x128.Idx := Finset.univ.filter fun i => lo ≤ (i 0).val ∧ (i 0).val < hi
/-- Slot `b` of the ring. -/
def slotSet (b : ℕ) : Finset S4x112x128.Idx := Finset.univ.filter fun i => (i 0).val = b

theorem mem_rng {lo hi : ℕ} {i : S917504x128.Idx} : i ∈ rng lo hi ↔ lo ≤ (i 0).val ∧ (i 0).val < hi := by simp [rng]
theorem mem_slotSet {b : ℕ} {i : S4x112x128.Idx} : i ∈ slotSet b ↔ (i 0).val = b := by simp [slotSet]

/-- An empty range of rows. -/
theorem rng_empty {lo hi : ℕ} (h : hi ≤ lo) : rng lo hi = ∅ := by
  ext i; simp only [mem_rng, Finset.notMem_empty, iff_false]; omega
/-- A range of rows cut at a row inside it. -/
theorem rng_union {a b c : ℕ} (h : a ≤ b) (h' : b ≤ c) : rng a c = rng a b ∪ rng b c := by
  ext i; simp only [mem_rng, Finset.mem_union]; omega
theorem rng_disjoint (a b c : ℕ) : Disjoint (rng a b) (rng b c) := by
  rw [Finset.disjoint_left]; intro i; simp only [mem_rng]; omega

/-- Two indices of a two-axis shape with the same coordinates are the same. -/
theorem idx2_ext {n : Fin 2 → ℕ} {x y : (⟨2, n⟩ : Shape).Idx} (h0 : (x 0).val = (y 0).val) (h1 : (x 1).val = (y 1).val) : x = y :=
  funext fun a => Fin.ext (match a with | 0 => h0 | 1 => h1)

/-- Coordinates of a ring slot's element. -/
theorem emb_slotM {b : ℕ} {o : Fin 3 → ℕ} (ho : o = ![b, 0, 0]) (h : ∀ a, o a + S1x112x128.size a ≤ S4x112x128.size a) (j : S112x128.Idx) :
    ((slotM o h).view.emb j 0).val = b ∧ ((slotM o h).view.emb j 1).val = (j 0).val ∧ ((slotM o h).view.emb j 2).val = (j 1).val := by
  subst ho
  have hy : Shape.reshapeEquiv squeezes_S1x112x128_S112x128.numel_eq j
      = (ix3 (0 : Fin 1) (j 0 : Fin 112) (j 1 : Fin 128) : S1x112x128.Idx) := by
    apply Shape.reshapeEquiv_eq_of_rowMajor
    rw [Shape.rowMajor_val_three, Shape.rowMajor_val_two]
    simp
  simp only [Memref.view_squeeze, View.emb_reshape, Memref.view_slice, Memref.view_whole, View.emb_slice, View.emb_whole,
    Function.Embedding.trans_apply, Equiv.coe_toEmbedding, Function.Embedding.refl_apply]
  rw [hy]
  refine ⟨?_, ?_, ?_⟩
  · show b + 1 * 0 = b; omega
  · show 0 + 1 * (j 0).val = (j 0).val; omega
  · show 0 + 1 * (j 1).val = (j 1).val; omega

theorem emb_outM {a : ℕ} {o : Fin 2 → ℕ} (ho : o = ![a, 0]) (h : ∀ x, o x + S112x128.size x ≤ S917504x128.size x) (j : S112x128.Idx) :
    ((outM o h).view.emb j 0).val = a + (j 0).val ∧ ((outM o h).view.emb j 1).val = (j 1).val := by
  subst ho
  exact ⟨show a + 1 * (j 0).val = _ by omega, show 0 + 1 * (j 1).val = _ by omega⟩

theorem emb_listM {a : ℕ} {o : Fin 1 → ℕ} (ho : o = ![a]) (h : ∀ x, o x + S112.size x ≤ S28672.size x) (j : S112.Idx) :
    ((listM o h).view.emb j 0).val = a + (j 0).val := by
  subst ho; exact show a + 1 * (j 0).val = _ by omega

theorem emb_inM {a : ℕ} {o : Fin 1 → ℕ} (ho : o = ![a]) (h : ∀ x, o x + S28672.size x ≤ S917504.size x) (j : S28672.Idx) :
    ((inM o h).view.emb j 0).val = a + (j 0).val := by
  subst ho; exact show a + 1 * (j 0).val = _ by omega

theorem emb_tblM (h : ∀ a, (![0, 0] : Fin 2 → ℕ) a + S1000000x128.size a ≤ S1000000x128.size a) (j : S1000000x128.Idx) :
    (tblM h).view.emb j = j := by
  exact idx2_ext (show 0 + 1 * (j 0).val = _ by omega) (show 0 + 1 * (j 1).val = _ by omega)

theorem set_tblM (h : ∀ a, (![0, 0] : Fin 2 → ℕ) a + S1000000x128.size a ≤ S1000000x128.size a) : (tblM h).view.set = Finset.univ := by
  ext i; simp only [Finset.mem_univ, iff_true]
  exact emb_tblM h i ▸ View.emb_mem_set _ i

theorem set_slotM {b : ℕ} {o : Fin 3 → ℕ} (ho : o = ![b, 0, 0]) (h : ∀ a, o a + S1x112x128.size a ≤ S4x112x128.size a) :
    (slotM o h).view.set = slotSet b := by
  ext i
  rw [mem_slotSet]
  constructor
  · intro hi
    obtain ⟨j, -, rfl⟩ := Finset.mem_map.mp hi
    exact (emb_slotM ho h j).1
  · intro hi
    have e : (slotM o h).view.emb (ix2 (i 1 : Fin 112) (i 2 : Fin 128) : S112x128.Idx) = i := by
      have := emb_slotM ho h (ix2 (i 1 : Fin 112) (i 2 : Fin 128) : S112x128.Idx)
      funext a; apply Fin.ext
      match a with
      | 0 => exact this.1.trans hi.symm
      | 1 => exact this.2.1
      | 2 => exact this.2.2
    exact e ▸ View.emb_mem_set _ _

theorem set_outM {a : ℕ} {o : Fin 2 → ℕ} (ho : o = ![a, 0]) (h : ∀ x, o x + S112x128.size x ≤ S917504x128.size x) :
    (outM o h).view.set = rng a (a + 112) := by
  ext i
  rw [mem_rng]
  constructor
  · intro hi
    obtain ⟨j, -, rfl⟩ := Finset.mem_map.mp hi
    rw [(emb_outM ho h j).1]
    have : (j 0).val < 112 := (j 0).isLt
    omega
  · intro hi
    have e : (outM o h).view.emb (ix2 (⟨(i 0).val - a, by omega⟩ : Fin 112) (i 1 : Fin 128) : S112x128.Idx) = i := by
      have := emb_outM ho h (ix2 (⟨(i 0).val - a, by omega⟩ : Fin 112) (i 1 : Fin 128) : S112x128.Idx)
      refine idx2_ext (this.1.trans ?_) this.2
      show a + ((i 0).val - a) = (i 0).val
      omega
    exact e ▸ View.emb_mem_set _ _

/-! ## What the transfers are worth -/

theorem slot_inb (b : ℕ) (hb : b < 4) : ∀ a, (![b, 0, 0] : Fin 3 → ℕ) a + S1x112x128.size a ≤ S4x112x128.size a := by
  intro a
  match a with
  | 0 => show b + 1 ≤ 4; omega
  | 1 => exact le_refl 112
  | 2 => exact le_refl 128

/-- The credit of a gather into a slot and of a write-out of one: what their waits consume. -/
abbrev NG : ℕ := (slotM ![0, 0, 0] (slot_inb 0 (by decide))).view.dmaCredit
abbrev NO : ℕ := (outM ![0, 0] (by decide)).view.dmaCredit

theorem slot_credit (o : Fin 3 → ℕ) (h : ∀ a, o a + S1x112x128.size a ≤ S4x112x128.size a) : (slotM o h).view.dmaCredit = NG := rfl
theorem out_credit (o : Fin 2 → ℕ) (h : ∀ a, o a + S112x128.size a ≤ S917504x128.size a) : (outM o h).view.dmaCredit = NO := rfl
theorem NO_pos : 0 < NO := View.dmaCredit_pos _ (by decide)

theorem gather_credit (hg : S1000000x128.Gathers 0 S112x128) (o : Fin 3 → ℕ) (h : ∀ a, o a + S1x112x128.size a ≤ S4x112x128.size a) :
    ∑ j, ((slotM o h).slice (S112x128.rowRect hg.axis' j) (S112x128.stride_rowRect hg.axis' j)).view.dmaCredit = NG := by
  show ∑ j : Fin 112, ((slotM ![0, 0, 0] (slot_inb 0 (by decide))).slice (S112x128.rowRect hg.axis' j) (S112x128.stride_rowRect hg.axis' j)).view.dmaCredit = NG
  revert hg; decide +kernel

end Cert.Proof.Lookup

end
-- ==== Proof.Ops.lean ====
/-
  One rule per operation of the row-lookup kernel's ring: issuing a gather into a slot, waiting for it, issuing a slot's
  write-out, waiting for it. Each is stated over the offset vector the program cuts its memref at, so one rule serves
  every slot and every step.
-/
module

public import proofs.«01_k».proof.Proof.Base

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The values -/

/-- The row of the table a row number names. -/
def rowNo (w : BitVec 32) : Fin 1000000 := ⟨w.toNat % 1000000, Nat.mod_lt _ (by decide)⟩

/-- The looked-up rows: row `r` is the table's row number `X r`. -/
def G (T : S1000000x128.Idx → Elt F .f32) (X : S917504.Idx → BitVec 32) : S917504x128.Idx → Elt F .f32 :=
  fun i => T (ix2 (rowNo (X (ix1 (i 0 : Fin 917504)))) (i 1 : Fin 128))

/-- The first row of the tile's block. -/
def base (L : grid0.Coords) : ℕ := 57344 * (L 1).val + 28672 * (L 0).val

theorem base_le (L : grid0.Coords) : base L + 28672 ≤ 917504 := by
  have h0 : (L 0).val < 2 := (L 0).isLt
  have h1 : (L 1).val < 16 := (L 1).isLt
  unfold base; omega

/-- The tile's list of row numbers: its block of them. -/
def sX (L : grid0.Coords) (X : S917504.Idx → BitVec 32) : S28672.Idx → BitVec 32 :=
  fun j => X (ix1 (⟨base L + (j 0).val, by have := base_le L; have : (j 0).val < 28672 := (j 0).isLt; omega⟩ : Fin 917504))

section Tile

variable (d : Dev nD) (L : grid0.Coords) (T : S1000000x128.Idx → Elt F .f32) (X : S917504.Idx → BitVec 32)

/-! ## What the flights deliver -/

/-- A transfer in flight on the tile's DMA semaphore `sm`, worth `N`, delivering `R`. -/
abbrev Flt (sm : DmaSem sig) (N : ℕ) (R : sProp 𝕄) : sProp 𝕄 :=
  Transfers.Flight countersEmb (thr d L) (SemLoc.dma sm) (default : HIx 1) N R
/-- The tile's DMA semaphore `sm` at zero. -/
abbrev idle (sm : DmaSem sig) : sProp 𝕄 := semVal ((thr d L, SemLoc.dma sm) : GSem nD τ sig) 0

/-- What a gather borrows: a share of the table and a share of the tile's list. -/
def tok (q q' : PosShare TreeShare) : sProp 𝕄 := iprop((tLoc d ↦{q} T) ∗ (sLoc d L ↦{q'} sX L X))
/-- Slot `b` of the ring, holding anything. -/
def slotAny (b : ℕ) : sProp 𝕄 := iprop(∃ f, rLoc d L ↦[slotSet b]{fullShare} f)
/-- Slot `b` of the ring holding the looked-up rows of chunk `n`. -/
def slotAt (b n : ℕ) : sProp 𝕄 :=
  iprop(∃ f : S4x112x128.Idx → Elt F .f32, ⌜∀ (p : S4x112x128.Idx) (r : S917504x128.Idx), (p 0).val = b → (r 0).val = base L + 112 * n + (p 1).val →
      (r 1).val = (p 2).val → f p = G T X r⌝ ∗ rLoc d L ↦[slotSet b]{fullShare} f)
/-- Rows `lo ≤ r < hi` of the result at contents `f`. -/
abbrev rows (f : S917504x128.Idx → Elt F .f32) (lo hi : ℕ) : sProp 𝕄 := oLoc d ↦[rng lo hi]{fullShare} f
/-- What a gather of chunk `n` into slot `b` delivers. -/
def gatherD (b n : ℕ) (q q' : PosShare TreeShare) : sProp 𝕄 := iprop(slotAt d L T X b n ∗ tok d L T X q q')
/-- What the write-out of chunk `n` from slot `b` delivers: the chunk's rows of the result looked up, the slot back. -/
def outD (b n : ℕ) : sProp 𝕄 := iprop(rows d (G T X) (base L + 112 * n) (base L + 112 * n + 112) ∗ slotAny (F := F) d L b)

theorem slotAt_any (b n : ℕ) : slotAt d L T X b n ⊢ slotAny (F := F) d L b := by
  unfold slotAt slotAny; iintro ⟨%f, -, H⟩; iexists f; iexact H

/-! ## Flights -/

/-- A flight carries along anything handed to it. -/
theorem flt_frame (sm : DmaSem sig) (N : ℕ) (R R' : sProp 𝕄) : iprop(Flt d L sm N R ∗ R') ⊢ Flt d L sm N iprop(R ∗ R') := by
  unfold Flt Transfers.Flight
  iintro ⟨⟨⟨%R₀, HR, %h, %h'⟩, Hc⟩, HR'⟩
  isplitr [Hc]
  · iexists iprop(R₀ ∗ R')
    isplitl [HR HR']; · isplitl [HR] <;> iassumption
    isplitr
    · ipureintro
      intro k
      refine (show iprop((R₀ ∗ R') ∗ (iprop(idle (F := F) d L sm ∗ (R ∗ R')) -∗ k ⟨⟩)) ⊢ iprop(R₀ ∗ (iprop(idle (F := F) d L sm ∗ R) -∗ k ⟨⟩)) from ?_).trans (h k)
      iintro ⟨⟨HR, HR'⟩, Hk⟩
      isplitl [HR]; · iexact HR
      iintro ⟨Hs, HD⟩
      iapply Hk
      isplitl [Hs]; · iexact Hs
      isplitl [HD] <;> iassumption
    · ipureintro
      intro k
      refine (show iprop((R₀ ∗ R') ∗ (iprop(R₀ ∗ R') -∗ k ⟨⟩)) ⊢ iprop(R₀ ∗ (R₀ -∗ k ⟨⟩)) from ?_).trans (h' k)
      iintro ⟨⟨HR, HR'⟩, Hk⟩
      isplitl [HR]; · iexact HR
      iintro HR
      iapply Hk
      isplitl [HR] <;> iassumption
  · iexact Hc

theorem flt_mono (sm : DmaSem sig) (N : ℕ) {R R' : sProp 𝕄} (h : R ⊢ R') : Flt d L sm N R ⊢ Flt d L sm N R' :=
  Transfers.Flight_mono countersEmb (thr d L) h

/-- A flight on `sm` while `c` holds; its delivery and the semaphore at zero otherwise. -/
def fly (c : Prop) [Decidable c] (sm : DmaSem sig) (N : ℕ) (R R' : sProp 𝕄) : sProp 𝕄 :=
  if c then Flt d L sm N R else iprop(R' ∗ idle (F := F) d L sm)

theorem fly_pos {c : Prop} [Decidable c] (h : c) (sm : DmaSem sig) (N : ℕ) (R R' : sProp 𝕄) : fly d L c sm N R R' = Flt d L sm N R := if_pos h
theorem fly_neg {c : Prop} [Decidable c] (h : ¬ c) (sm : DmaSem sig) (N : ℕ) (R R' : sProp 𝕄) :
    fly d L c sm N R R' = iprop(R' ∗ idle (F := F) d L sm) := if_neg h

/-- What the tile owes, having waited only for transfers of its own beyond `W`. -/
def owesN (O : CellTallies nD τ sig (HIx 1)) (W : Waits sig (HIx 1)) : sProp 𝕄 :=
  iprop(∃ W', ⌜∀ p ∈ W', p ∈ W ∨ p.2 = none⌝ ∗ owes (thr d L) O W')

variable [FloatOps F]

/-! ## The rules -/

local notation "wpT" => wp frame (wpE (defs₀ (F := F)) 𝒱₀ (thr d L) none) Set.univ

/-- The row numbers of a chunk, as the gather reads them: each below a million. -/
theorem list_inb (hX : ∀ j, (X j).toNat < 1000000) {ol : Fin 1 → ℕ} (h : ∀ a, ol a + S112.size a ≤ S28672.size a) (x : S112.Idx) :
    ((listM ol h).view.read (Elt F) (sX L X) x).toNat < S1000000x128.size gathers_S1000000x128_S112x128.axis := by
  rw [(View.read_apply _ _).trans (cast_eq _ _)]
  exact hX _

/-- What a gather of chunk `n` writes into its slot. -/
theorem gather_value (hX : ∀ j, (X j).toNat < 1000000) {b n : ℕ} {ob : Fin 3 → ℕ} {ol : Fin 1 → ℕ} (hb : ob = ![b, 0, 0]) (hl : ol = ![112 * n])
    (h1 : ∀ a, ob a + S1x112x128.size a ≤ S4x112x128.size a) (h2 : ∀ a, ol a + S112.size a ≤ S28672.size a)
    (h3 : ∀ a, (![0, 0] : Fin 2 → ℕ) a + S1000000x128.size a ≤ S1000000x128.size a) (hn : S112.numel = S112x128.size gathers_S1000000x128_S112x128.axis')
    (f : S4x112x128.Idx → Elt F .f32) (p : S4x112x128.Idx) (r : S917504x128.Idx) (hp : (p 0).val = b)
    (hr : (r 0).val = base L + 112 * n + (p 1).val) (hr' : (r 1).val = (p 2).val) :
    (slotM ob h1).view.write (Elt F) f (SparseCore.gatherPayload gathers_S1000000x128_S112x128 ((tblM h3).view.read (Elt F) T)
      (SparseCore.rows ((listM ol h2).view.read (Elt F) (sX L X)) hn (list_inb L X hX h2))) Finset.univ p = G T X r := by
  obtain ⟨j, -, rfl⟩ := Finset.mem_map.mp (show p ∈ (slotM ob h1).view.set by rw [set_slotM hb, mem_slotSet]; exact hp)
  obtain ⟨-, e1, e2⟩ := emb_slotM hb h1 j
  refine (View.write_emb_of_mem _ _ (Finset.mem_univ j)).trans ?_
  refine (cast_eq _ _).trans ?_
  unfold SparseCore.gatherPayload G
  rw [(View.read_apply _ _).trans (cast_eq _ _), emb_tblM]
  refine congrArg T (idx2_ext ?_ ?_)
  · have e := congrArg Fin.val (Shape.Gathers.idx_axis gathers_S1000000x128_S112x128
      (SparseCore.rows ((listM ol h2).view.read (Elt F) (sX L X)) hn (list_inb L X hX h2)) j)
    refine e.trans ?_
    show ((listM ol h2).view.read (Elt F) (sX L X) (S112.rowMajor.symm ((j 0).cast hn.symm))).toNat = (X (ix1 (r 0 : Fin 917504))).toNat % 1000000
    rw [(View.read_apply _ _).trans (cast_eq _ _), Nat.mod_eq_of_lt (hX _)]
    have hk : (S112.rowMajor.symm ((j 0).cast hn.symm) 0).val = (j 0).val := by
      rw [← Shape.rowMajor_val_one, Equiv.apply_symm_apply]; rfl
    refine congrArg (fun z => (X z).toNat) (funext fun a => Fin.ext ?_)
    match a with
    | 0 =>
      show base L + ((listM ol h2).view.emb (S112.rowMajor.symm ((j 0).cast hn.symm)) 0).val = (r 0).val
      rw [emb_listM hl, hk, hr, e1]; omega
  · refine (Shape.Gathers.idx_of_ne gathers_S1000000x128_S112x128 _ j 1 (by decide)).trans ?_
    exact e2.symm.trans hr'.symm

/-- Issuing the gather of chunk `n` into slot `b`. -/
theorem wp_gather (hX : ∀ j, (X j).toNat < 1000000) {b n : ℕ} {ob : Fin 3 → ℕ} {ol : Fin 1 → ℕ} (hb : ob = ![b, 0, 0]) (hl : ol = ![112 * n])
    {h1 : ∀ a, ob a + S1x112x128.size a ≤ S4x112x128.size a} {h2 : ∀ a, ol a + S112.size a ≤ S28672.size a}
    {h3 : ∀ a, (![0, 0] : Fin 2 → ℕ) a + S1000000x128.size a ≤ S1000000x128.size a} (sm : DmaSem sig) (q q' : PosShare TreeShare) {Q : PUnit → sProp 𝕄} :
    iprop(slotAny (F := F) d L b ∗ tok d L T X q q' ∗ idle (F := F) d L sm)
      ⊢ iprop((Flt d L sm NG (gatherD d L T X b n q q') -∗ Q ⟨⟩)
        -∗ wpT (SparseCore.enqueueIndirectGather rfl (tblM h3) (slotM ob h1) gathers_S1000000x128_S112x128 (listM ol h2) rfl sm
            (View.wordExact_bits rfl) rfl (Or.inl rfl)) Q) := by
  show _ ⊢ iprop((Flt d L sm NG (gatherD d L T X b n q q') -∗ Q ⟨⟩)
        -∗ wpT (SparseCore.enqueueIndirectGather rfl (tblM h3) (slotM ob h1) gathers_S1000000x128_S112x128 (listM ol h2) rfl sm
            (View.wordExact_bits rfl) rfl (Or.inl rfl) >>= Prog.ret) Q)
  unfold slotAny tok
  iintro ⟨⟨%f, Hr⟩, ⟨Ht, Hs⟩, Hsem⟩ Hk
  ihave Hsp := (pointsTo_split_subset (q := q') (f := sX L X) (S := Finset.univ) (Finset.subset_univ (listM ol h2).view.set)).1 $$ Hs
  icases Hsp with ⟨Hs, Hrest⟩
  iapply (SparseCore.wp_indirectGatherLocal countersEmb 𝒱₀ (thr d L) none (hg := gathers_S1000000x128_S112x128) (q := q) (qo := q') (default : HIx 1)
      NG (gather_credit _ ob h1) (by decide) (list_inb L X hX h2)) $$ [Ht Hr Hs Hsem]
  · isplitl [Ht]; · rw [set_tblM]; iexact Ht
    isplitl [Hr]; · rw [set_slotM hb]; iexact Hr
    isplitl [Hs]; · iexact Hs
    iexact Hsem
  iintro Hfl
  rw [wp_ret]
  imodintro
  iapply Hk
  ihave Hfl' := (flt_frame d L sm NG _ _) $$ [Hfl Hrest]
  · isplitl [Hfl]; · iexact Hfl
    iexact Hrest
  iapply (flt_mono d L sm NG (R' := gatherD d L T X b n q q') ?_) $$ Hfl'
  unfold gatherD slotAt tok
  iintro ⟨⟨Hr, Ht, Hs⟩, Hrest⟩
  isplitl [Hr]
  · iexists _
    isplitr
    swap
    · rw [set_slotM hb]; iexact Hr
    · ipureintro
      exact fun p r hp hr hr' => gather_value L T X hX hb hl h1 h2 h3 rfl f p r hp hr hr'
  isplitl [Ht]
  · rw [set_tblM]; iexact Ht
  iapply (pointsTo_split_subset (q := q') (f := sX L X) (S := Finset.univ) (Finset.subset_univ (listM ol h2).view.set)).2
  isplitl [Hs] <;> iassumption

/-- What the write-out of chunk `n` from a slot holding its looked-up rows writes to the chunk's rows of the result. -/
theorem out_value {b n : ℕ} {ob : Fin 3 → ℕ} {oo : Fin 2 → ℕ} (hb : ob = ![b, 0, 0]) (ho : oo = ![base L + 112 * n, 0])
    (h1 : ∀ a, ob a + S1x112x128.size a ≤ S4x112x128.size a) (h2 : ∀ a, oo a + S112x128.size a ≤ S917504x128.size a)
    (f : S4x112x128.Idx → Elt F .f32) (g : S917504x128.Idx → Elt F .f32)
    (hf : ∀ (p : S4x112x128.Idx) (r : S917504x128.Idx), (p 0).val = b → (r 0).val = base L + 112 * n + (p 1).val →
      (r 1).val = (p 2).val → f p = G T X r) (i : S917504x128.Idx) (hi : i ∈ rng (base L + 112 * n) (base L + 112 * n + 112)) :
    (outM oo h2).view.write (Elt F) g (ReadAs.same.apply ((slotM ob h1).view.read (Elt F) f)) Finset.univ i = G T X i := by
  obtain ⟨j, -, rfl⟩ := Finset.mem_map.mp (show i ∈ (outM oo h2).view.set by rw [set_outM ho]; exact hi)
  obtain ⟨e0, e1, e2⟩ := emb_slotM hb h1 j
  obtain ⟨o0, o1⟩ := emb_outM ho h2 j
  refine (View.write_emb_of_mem _ _ (Finset.mem_univ j)).trans ?_
  refine (cast_eq _ _).trans ?_
  show (slotM ob h1).view.read (Elt F) f j = _
  rw [(View.read_apply _ _).trans (cast_eq _ _)]
  exact hf _ _ e0 (o0.trans (by rw [e1])) (o1.trans e2.symm)

/-- Issuing the write-out of chunk `n` from slot `b`. -/
theorem wp_out {b n : ℕ} {ob : Fin 3 → ℕ} {oo : Fin 2 → ℕ} (hb : ob = ![b, 0, 0]) (ho : oo = ![base L + 112 * n, 0])
    {h1 : ∀ a, ob a + S1x112x128.size a ≤ S4x112x128.size a} {h2 : ∀ a, oo a + S112x128.size a ≤ S917504x128.size a} (sm : DmaSem sig)
    (g : S917504x128.Idx → Elt F .f32) {Q : PUnit → sProp 𝕄} :
    iprop(slotAt d L T X b n ∗ rows d g (base L + 112 * n) (base L + 112 * n + 112) ∗ idle (F := F) d L sm)
      ⊢ iprop((Flt d L sm NO (outD d L T X b n) -∗ Q ⟨⟩)
        -∗ wpT (Prog.lift (.enqueueDma (slotM ob h1) (.here (outM oo h2)) (.dma sm) ((View.wordExact_bits rfl).reshape _ _) (View.wordExact_bits rfl)
            ⟨Or.inl rfl, trivial⟩)) Q) := by
  unfold slotAt
  iintro ⟨⟨%f, %hf, Hr⟩, Ho, Hsem⟩ Hk
  iapply (Transfers.wp_dmaLocal countersEmb 𝒱₀ (thr d L) none (q := fullShare) (sm := SemLoc.dma sm) (default : HIx 1) NO (out_credit oo h2) NO_pos
    (subset_refl (outM oo h2).view.set)) $$ [Hr Ho Hsem]
  · isplitl [Hr]; · rw [set_slotM hb]; iexact Hr
    isplitl [Ho]; · rw [set_outM ho]; iexact Ho
    iexact Hsem
  iintro Hfl
  rw [wp_ret]
  imodintro
  iapply Hk
  iapply (flt_mono d L sm NO (R' := outD d L T X b n) ?_) $$ Hfl
  unfold outD slotAny
  iintro ⟨Ho, Hr⟩
  isplitl [Ho]
  · rw [set_outM ho]
    iapply (Entails.of_eq (pointsTo_congr (out_value L T X hb ho h1 h2 f g hf))) $$ Ho
  iexists f
  rw [set_slotM hb]; iexact Hr

/-- Waiting for a transfer in flight. -/
theorem wp_await {s' s : Shape} {e' e : EltTy} {κ' : Kind} {sp sp' : Space} {sm : DmaSem sig} {N : ℕ} {R : sProp 𝕄}
    {src : Memref sig .scVector sp' s' e'} {dst : Memref sig κ' sp s e} {w1 : src.view.WordExact} {w2 : dst.view.WordExact}
    (hN : dst.view.dmaCredit = N) {O : CellTallies nD τ sig (HIx 1)} {W : Waits sig (HIx 1)} {Q : PUnit → sProp 𝕄} :
    iprop(Flt d L sm N R ∗ owesN (F := F) d L O W ∗ Transfers.MayWaits (thr d L) (default : HIx 1) O)
      ⊢ iprop((iprop(R ∗ idle (F := F) d L sm ∗ owesN (F := F) d L O W) -∗ Q ⟨⟩)
        -∗ wpT (Prog.lift (.waitDma2 sm src dst w1 w2)) Q) := by
  unfold owesN
  iintro ⟨Hfl, ⟨%W', %hW, HO⟩, #Hmw⟩ Hk
  iapply (Transfers.wp_waitLocalO countersEmb 𝒱₀ (thr d L) none (default : HIx 1) hN) $$ [Hfl HO]
  · isplitl [Hfl]; · iexact Hfl
    isplitl [HO]; · iexact HO
    iapply (Transfers.MayWaits.elim (SemLoc.dma sm)) $$ Hmw
  iintro ⟨HR, Hsem, HO⟩
  rw [wp_ret]
  imodintro
  iapply Hk
  isplitl [HR]; · iexact HR
  isplitl [Hsem]; · iexact Hsem
  iexists _
  isplitr
  swap; · iexact HO
  ipureintro
  intro p hp
  rcases Finset.mem_insert.mp hp with rfl | hp
  · exact .inr rfl
  · exact hW p hp

/-! ## One step of the ring

  Step `n` handles chunk `n` in a slot `s0`: it waits for the chunk's gather, starts the chunk's write-out, waits for the
  write-out of chunk `n - 2` (slot `s2`, when there is one), and starts the gather of chunk `n + 2` into that slot (when
  there is one). The states before it and after each of its four operations follow; the state after it is the state before
  step `n + 1` with the slots turned by one. -/

/-- A slot of the ring: its number, its gathers' semaphore, its write-outs' semaphore. -/
structure Slot where
  b : ℕ
  g : DmaSem sig
  o : DmaSem sig

variable (O : CellTallies nD τ sig (HIx 1)) (W : Waits sig (HIx 1)) (g₀ : S917504x128.Idx → Elt F .f32)

/-- The gather of chunk `n` into slot `s` in flight, if there is such a chunk; else the slot and the shares at rest. -/
abbrev gFly (n : ℕ) (s : Slot) (q : PosShare TreeShare × PosShare TreeShare) : sProp 𝕄 :=
  fly d L (n < 256) s.g NG (gatherD d L T X s.b n q.1 q.2) iprop(slotAny (F := F) d L s.b ∗ tok d L T X q.1 q.2)
/-- The write-out of chunk `n - 2` from slot `s` in flight, if there is such a chunk; else the slot at rest. -/
abbrev oFly (n : ℕ) (s : Slot) : sProp 𝕄 := fly d L (2 ≤ n) s.o NO (outD d L T X s.b (n - 2)) (slotAny (F := F) d L s.b)

/-- What no operation but the first write-outs' touches: the block's rows from chunk `n` on, as they were. -/
abbrev todo (n : ℕ) : sProp 𝕄 := rows d g₀ (base L + 112 * n) (base L + 28672)
/-- The block's rows before chunk `n`, looked up. -/
abbrev done (n : ℕ) : sProp 𝕄 := rows d (G T X) (base L) (base L + 112 * n)
/-- The waits' bookkeeping. -/
def book : sProp 𝕄 := iprop(owesN (F := F) d L O W ∗ Transfers.MayWaits (thr d L) (default : HIx 1) O)

/-- Before step `n`. -/
def ring (n : ℕ) (s0 s1 s2 s3 : Slot) (q0 q1 : PosShare TreeShare × PosShare TreeShare) : sProp 𝕄 :=
  iprop(gFly d L T X n s0 q0 ∗ gFly d L T X (n + 1) s1 q1 ∗ idle (F := F) d L s2.g ∗ idle (F := F) d L s3.g
    ∗ idle (F := F) d L s0.o ∗ idle (F := F) d L s1.o ∗ oFly d L T X n s2 ∗ oFly d L T X (n + 1) s3
    ∗ todo d L g₀ n ∗ done d L T X (n - 2) ∗ book (F := F) d L O W)
/-- After its wait for the gather. -/
def ringA (n : ℕ) (s0 s1 s2 s3 : Slot) (q0 q1 : PosShare TreeShare × PosShare TreeShare) : sProp 𝕄 :=
  iprop((slotAt d L T X s0.b n ∗ tok d L T X q0.1 q0.2 ∗ idle (F := F) d L s0.g) ∗ gFly d L T X (n + 1) s1 q1 ∗ idle (F := F) d L s2.g ∗ idle (F := F) d L s3.g
    ∗ idle (F := F) d L s0.o ∗ idle (F := F) d L s1.o ∗ oFly d L T X n s2 ∗ oFly d L T X (n + 1) s3
    ∗ todo d L g₀ n ∗ done d L T X (n - 2) ∗ book (F := F) d L O W)
/-- After it started its write-out. -/
def ringB (n : ℕ) (s0 s1 s2 s3 : Slot) (q0 q1 : PosShare TreeShare × PosShare TreeShare) : sProp 𝕄 :=
  iprop((oFly d L T X (n + 2) s0 ∗ tok d L T X q0.1 q0.2 ∗ idle (F := F) d L s0.g) ∗ gFly d L T X (n + 1) s1 q1 ∗ idle (F := F) d L s2.g ∗ idle (F := F) d L s3.g
    ∗ idle (F := F) d L s1.o ∗ oFly d L T X n s2 ∗ oFly d L T X (n + 1) s3
    ∗ todo d L g₀ (n + 1) ∗ done d L T X (n - 2) ∗ book (F := F) d L O W)
/-- After its wait for the write-out of two chunks before. -/
def ringC (n : ℕ) (s0 s1 s2 s3 : Slot) (q0 q1 : PosShare TreeShare × PosShare TreeShare) : sProp 𝕄 :=
  iprop((oFly d L T X (n + 2) s0 ∗ tok d L T X q0.1 q0.2 ∗ idle (F := F) d L s0.g) ∗ gFly d L T X (n + 1) s1 q1 ∗ idle (F := F) d L s2.g ∗ idle (F := F) d L s3.g
    ∗ idle (F := F) d L s1.o ∗ (slotAny (F := F) d L s2.b ∗ idle (F := F) d L s2.o) ∗ oFly d L T X (n + 1) s3
    ∗ todo d L g₀ (n + 1) ∗ done d L T X (n + 1 - 2) ∗ book (F := F) d L O W)

variable {n : ℕ} {s0 s1 s2 s3 : Slot} {q0 q1 : PosShare TreeShare × PosShare TreeShare}

/-- The rows of a range, cut at a row inside it. -/
theorem rows_cut (f : S917504x128.Idx → Elt F .f32) {a b c : ℕ} (h : a ≤ b) (h' : b ≤ c) :
    rows (F := F) d f a c = iprop(rows (F := F) d f a b ∗ rows (F := F) d f b c) := by
  unfold rows; rw [rng_union h h']; exact BI.Entails.antisymm (pointsTo_union (rng_disjoint a b c)).1 (pointsTo_union (rng_disjoint a b c)).2

/-- The step's wait for its gather. -/
theorem step_wait (hn : n < 256) {ob : Fin 3 → ℕ} {h1 : ∀ a, ob a + S1x112x128.size a ≤ S4x112x128.size a}
    {h3 : ∀ a, (![0, 0] : Fin 2 → ℕ) a + S1000000x128.size a ≤ S1000000x128.size a} {Q : PUnit → sProp 𝕄} :
    ring d L T X O W g₀ n s0 s1 s2 s3 q0 q1 ⊢ iprop((ringA d L T X O W g₀ n s0 s1 s2 s3 q0 q1 -∗ Q ⟨⟩)
      -∗ wpT (SparseCore.waitIndirectGather s0.g (tblM h3) (slotM ob h1) (View.wordExact_bits rfl) ((View.wordExact_bits rfl).reshape _ _)) Q) := by
  unfold ring ringA book
  have e : gFly d L T X n s0 q0 = Flt d L s0.g NG (gatherD d L T X s0.b n q0.1 q0.2) := fly_pos d L hn s0.g _ _ _
  rw [e]
  iintro ⟨Hg, H1, H2, H3, H4, H5, H6, H7, H8, H9, HO, #Hmw⟩ Hk
  iapply (wp_await d L (N := NG) (slot_credit ob h1)) $$ [Hg HO]
  · isplitl [Hg]; · iexact Hg
    isplitl [HO]; · iexact HO
    iexact Hmw
  unfold gatherD
  iintro ⟨⟨Hs, Ht⟩, Hi, HO⟩
  iapply Hk
  isplitl [Hs Ht Hi]
  · isplitl [Hs]; · iexact Hs
    isplitl [Ht]; · iexact Ht
    iexact Hi
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HO]; · iexact HO
  iexact Hmw

/-- The step's write-out. -/
theorem step_out (hn : n < 256) {ob : Fin 3 → ℕ} {oo : Fin 2 → ℕ} (hb : ob = ![s0.b, 0, 0]) (ho : oo = ![base L + 112 * n, 0])
    {h1 : ∀ a, ob a + S1x112x128.size a ≤ S4x112x128.size a} {h2 : ∀ a, oo a + S112x128.size a ≤ S917504x128.size a} {Q : PUnit → sProp 𝕄} :
    ringA d L T X O W g₀ n s0 s1 s2 s3 q0 q1 ⊢ iprop((ringB d L T X O W g₀ n s0 s1 s2 s3 q0 q1 -∗ Q ⟨⟩)
      -∗ wpT (Prog.lift (.enqueueDma (slotM ob h1) (.here (outM oo h2)) (.dma s0.o) ((View.wordExact_bits rfl).reshape _ _) (View.wordExact_bits rfl)
            ⟨Or.inl rfl, trivial⟩)) Q) := by
  unfold ringA ringB
  have e : oFly d L T X (n + 2) s0 = Flt d L s0.o NO (outD d L T X s0.b n) := fly_pos d L (show 2 ≤ n + 2 by omega) s0.o _ _ _
  rw [e]
  iintro ⟨⟨Hs, Ht, Hg⟩, H1, H2, H3, H4, H5, H6, H7, H8, H9, HO⟩ Hk
  ihave H8' := (Entails.of_eq (rows_cut d g₀ (show base L + 112 * n ≤ base L + 112 * n + 112 by omega)
    (show base L + 112 * n + 112 ≤ base L + 28672 by omega))) $$ H8
  icases H8' with ⟨H8a, H8b⟩
  iapply (wp_out d L T X hb ho s0.o g₀) $$ [Hs H8a H4]
  · isplitl [Hs]; · iexact Hs
    isplitl [H8a]; · iexact H8a
    iexact H4
  iintro Hf
  iapply Hk
  isplitl [Hf Ht Hg]
  · isplitl [Hf]; · iexact Hf
    isplitl [Ht]; · iexact Ht
    iexact Hg
  isplitl [H1]; · iexact H1
  isplitl [H2]; · iexact H2
  isplitl [H3]; · iexact H3
  isplitl [H5]; · iexact H5
  isplitl [H6]; · iexact H6
  isplitl [H7]; · iexact H7
  isplitl [H8b]; · iexact H8b
  isplitl [H9]; · iexact H9
  iexact HO

/-- The step's wait for the write-out of two chunks before, when there is one. -/
theorem step_free {c : Prop} [Decidable c] (hc : c ↔ 2 ≤ n) {ob : Fin 3 → ℕ} {oo : Fin 2 → ℕ}
    {h1 : ∀ a, ob a + S1x112x128.size a ≤ S4x112x128.size a} {h2 : c → ∀ a, oo a + S112x128.size a ≤ S917504x128.size a} {Q : PUnit → sProp 𝕄} :
    ringB d L T X O W g₀ n s0 s1 s2 s3 q0 q1 ⊢ iprop((ringC d L T X O W g₀ n s0 s1 s2 s3 q0 q1 -∗ Q ⟨⟩)
      -∗ wpT (if h : c then (do
            Prog.lift (.waitDma2 s2.o (slotM ob h1) (outM oo (h2 h)) ((View.wordExact_bits rfl).reshape _ _) (View.wordExact_bits rfl))
            pure ⟨⟩)
          else pure ⟨⟩ : Prog (TpuEff nD τ sig (Elt F) Λ₀ (.scVector (cV L) (jV L))) PUnit) Q) := by
  unfold ringB ringC book
  by_cases h : c
  · have hn : 2 ≤ n := hc.mp h
    have e : oFly d L T X n s2 = Flt d L s2.o NO (outD d L T X s2.b (n - 2)) := fly_pos d L hn s2.o _ _ _
    rw [dif_pos h, e, wp_bind]
    iintro ⟨H0, H1, H2, H3, H5, Hf, H7, H8, H9, HO, #Hmw⟩ Hk
    iapply (wp_await d L (N := NO) (out_credit oo (h2 h))) $$ [Hf HO]
    · isplitl [Hf]; · iexact Hf
      isplitl [HO]; · iexact HO
      iexact Hmw
    unfold outD
    iintro ⟨⟨Hr, Hs⟩, Hi, HO⟩
    rw [wp_pure]
    imodintro
    iapply Hk
    isplitl [H0]; · iexact H0
    isplitl [H1]; · iexact H1
    isplitl [H2]; · iexact H2
    isplitl [H3]; · iexact H3
    isplitl [H5]; · iexact H5
    isplitl [Hs Hi]; · isplitl [Hs] <;> iassumption
    isplitl [H7]; · iexact H7
    isplitl [H8]; · iexact H8
    isplitl [H9 Hr]
    · have e' : (rows d (G T X) (base L) (base L + 112 * (n + 1 - 2)) : sProp 𝕄)
          = iprop(rows d (G T X) (base L) (base L + 112 * (n - 2)) ∗ rows d (G T X) (base L + 112 * (n - 2)) (base L + 112 * (n - 2) + 112)) := by
        rw [show base L + 112 * (n + 1 - 2) = base L + 112 * (n - 2) + 112 by omega]
        exact rows_cut d (G T X) (by omega) (by omega)
      iapply (Entails.of_eq e'.symm)
      isplitl [H9] <;> iassumption
    isplitl [HO]; · iexact HO
    iexact Hmw
  · have hn : ¬ 2 ≤ n := fun h' => h (hc.mpr h')
    have e : oFly d L T X n s2 = iprop(slotAny (F := F) d L s2.b ∗ idle (F := F) d L s2.o) := fly_neg d L hn s2.o _ _ _
    rw [dif_neg h, e, wp_pure]
    iintro ⟨H0, H1, H2, H3, H5, Hf, H7, H8, H9, HO⟩ Hk
    imodintro
    iapply Hk
    isplitl [H0]; · iexact H0
    isplitl [H1]; · iexact H1
    isplitl [H2]; · iexact H2
    isplitl [H3]; · iexact H3
    isplitl [H5]; · iexact H5
    isplitl [Hf]; · iexact Hf
    isplitl [H7]; · iexact H7
    isplitl [H8]; · iexact H8
    isplitl [H9]; · rw [show n + 1 - 2 = n - 2 by omega]; iexact H9
    iexact HO

/-- The step's gather of the chunk two after, when there is one. -/
theorem step_gather (hX : ∀ j, (X j).toNat < 1000000) {c : Prop} [Decidable c] (hc : c ↔ n + 2 < 256) {ob : Fin 3 → ℕ} {ol : Fin 1 → ℕ}
    (hb : ob = ![s2.b, 0, 0]) (hl : c → ol = ![112 * (n + 2)])
    {h1 : ∀ a, ob a + S1x112x128.size a ≤ S4x112x128.size a} {h2 : c → ∀ a, ol a + S112.size a ≤ S28672.size a}
    {h3 : ∀ a, (![0, 0] : Fin 2 → ℕ) a + S1000000x128.size a ≤ S1000000x128.size a} {Q : PUnit → sProp 𝕄} :
    ringC d L T X O W g₀ n s0 s1 s2 s3 q0 q1 ⊢ iprop((ring d L T X O W g₀ (n + 1) s1 s2 s3 s0 q1 q0 -∗ Q ⟨⟩)
      -∗ wpT (if h : c then (do
            SparseCore.enqueueIndirectGather rfl (tblM h3) (slotM ob h1) gathers_S1000000x128_S112x128 (listM ol (h2 h)) rfl s2.g
              (View.wordExact_bits rfl) rfl (Or.inl rfl)
            pure ⟨⟩)
          else pure ⟨⟩ : Prog (TpuEff nD τ sig (Elt F) Λ₀ (.scVector (cV L) (jV L))) PUnit) Q) := by
  unfold ringC ring
  by_cases h : c
  · have hn : n + 1 + 1 < 256 := hc.mp h
    have e : gFly d L T X (n + 1 + 1) s2 q0 = Flt d L s2.g NG (gatherD d L T X s2.b (n + 2) q0.1 q0.2) := fly_pos d L hn s2.g _ _ _
    rw [dif_pos h, e, wp_bind]
    iintro ⟨⟨Hf, Ht, Hg⟩, H1, H2, H3, H5, ⟨Hs, Hi⟩, H7, H8, H9, HO⟩ Hk
    iapply (wp_gather d L T X hX hb (hl h) s2.g q0.1 q0.2) $$ [Hs Ht H2]
    · isplitl [Hs]; · iexact Hs
      isplitl [Ht]; · iexact Ht
      iexact H2
    iintro Hfl
    rw [wp_pure]
    imodintro
    iapply Hk
    isplitl [H1]; · iexact H1
    isplitl [Hfl]; · iexact Hfl
    isplitl [H3]; · iexact H3
    isplitl [Hg]; · iexact Hg
    isplitl [H5]; · iexact H5
    isplitl [Hi]; · iexact Hi
    isplitl [H7]; · iexact H7
    isplitl [Hf]; · iexact Hf
    isplitl [H8]; · iexact H8
    isplitl [H9]; · iexact H9
    iexact HO
  · have hn : ¬ n + 1 + 1 < 256 := fun h' => h (hc.mpr h')
    have e : gFly d L T X (n + 1 + 1) s2 q0 = iprop((slotAny (F := F) d L s2.b ∗ tok d L T X q0.1 q0.2) ∗ idle (F := F) d L s2.g) :=
      fly_neg d L hn s2.g _ _ _
    rw [dif_neg h, e, wp_pure]
    iintro ⟨⟨Hf, Ht, Hg⟩, H1, H2, H3, H5, ⟨Hs, Hi⟩, H7, H8, H9, HO⟩ Hk
    imodintro
    iapply Hk
    isplitl [H1]; · iexact H1
    isplitl [Hs Ht H2]
    · isplitl [Hs Ht]; · isplitl [Hs] <;> iassumption
      iexact H2
    isplitl [H3]; · iexact H3
    isplitl [Hg]; · iexact Hg
    isplitl [H5]; · iexact H5
    isplitl [Hi]; · iexact Hi
    isplitl [H7]; · iexact H7
    isplitl [Hf]; · iexact Hf
    isplitl [H8]; · iexact H8
    isplitl [H9]; · iexact H9
    iexact HO

end Tile

end Cert.Proof.Lookup

end
-- ==== Proof.Tile.lean ====
/-
  One tile's task: the list fetched, the first two gathers started, the ring of four slots turned 256 steps in a counted
  loop of four steps a trip, the last two write-outs awaited. At its end the tile's rows of the result are looked up.
-/
module

public import proofs.«01_k».proof.Proof.Ops

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "tV" => (Memref.whole Cert.KernelIdeal.main_v2_scv : Memref Cert.KernelIdeal.sig Kind.scVector Space.hbm Cert.KernelIdeal.S1000000x128 EltTy.f32)
local notation "iV" => (Memref.whole Cert.KernelIdeal.main_v1_scv : Memref Cert.KernelIdeal.sig Kind.scVector Space.hbm Cert.KernelIdeal.S917504 EltTy.i32)
local notation "oV" => (Memref.whole Cert.KernelIdeal.main_v3_scv : Memref Cert.KernelIdeal.sig Kind.scVector Space.hbm Cert.KernelIdeal.S917504x128 EltTy.f32)
local notation "sV" => (Memref.whole Cert.KernelIdeal.cc0_scratch0 : Memref Cert.KernelIdeal.sig Kind.scVector Space.vmem Cert.KernelIdeal.S28672 EltTy.i32)
local notation "rV" => (Memref.whole Cert.KernelIdeal.cc0_scratch1 : Memref Cert.KernelIdeal.sig Kind.scVector Space.vmem Cert.KernelIdeal.S4x112x128 EltTy.f32)

/-! ## The ring's slots, and when a trip's conditions hold -/

abbrev sA : Slot := ⟨0, cc0_scratch2.sem, cc0_scratch6.sem⟩
abbrev sB : Slot := ⟨1, cc0_scratch3.sem, cc0_scratch7.sem⟩
abbrev sC : Slot := ⟨2, cc0_scratch4.sem, cc0_scratch8.sem⟩
abbrev sD : Slot := ⟨3, cc0_scratch5.sem, cc0_scratch9.sem⟩

theorem cond1_iff : ∀ t, k0_cond1 t = 1#1 ↔ 2 ≤ 4 * t.val := by decide +kernel
theorem cond2_iff : ∀ t, k0_cond2 t = 1#1 ↔ 4 * t.val + 2 < 256 := by decide +kernel
theorem cond3_iff : ∀ t, k0_cond3 t = 1#1 ↔ 2 ≤ 4 * t.val + 1 := by decide +kernel
theorem cond4_iff : ∀ t, k0_cond4 t = 1#1 ↔ 4 * t.val + 1 + 2 < 256 := by decide +kernel
theorem cond5_iff : ∀ t, k0_cond5 t = 1#1 ↔ 2 ≤ 4 * t.val + 1 + 1 := by decide +kernel
theorem cond6_iff : ∀ t, k0_cond6 t = 1#1 ↔ 4 * t.val + 1 + 1 + 2 < 256 := by decide +kernel
theorem cond7_iff : ∀ t, k0_cond7 t = 1#1 ↔ 2 ≤ 4 * t.val + 1 + 1 + 1 := by decide +kernel
theorem cond8_iff : ∀ t, k0_cond8 t = 1#1 ↔ 4 * t.val + 1 + 1 + 1 + 2 < 256 := by decide +kernel

theorem trips_eq : k0_t1_loop.trips = 64 := by decide +kernel

/-- A program of the tile. -/
abbrev TP (F : FTy → Type) (L : grid0.Coords) (α : Type) : Type 1 := Prog (TpuEff nD τ sig (Elt F) Λ₀ (.scVector (cV L) (jV L))) α

section Tile

variable (d : Dev nD) (L : grid0.Coords) (T : S1000000x128.Idx → Elt F .f32) (X : S917504.Idx → BitVec 32)
  (O : CellTallies nD τ sig (HIx 1)) (W : Waits sig (HIx 1)) (g₀ : S917504x128.Idx → Elt F .f32)
  (qA qB : PosShare TreeShare × PosShare TreeShare)

local notation "wpT" => wp frame (wpE (defs₀ (F := F)) 𝒱₀ (thr d L) none) Set.univ

/-- Where step `4 t + r` writes its chunk out. -/
theorem off_out (t : Fin k0_t1_loop.trips) (r : Fin 4) {n : ℕ} (hn : n = 4 * t.val + r.val) :
    k0_off3 L t (BitVec.ofNat 32 r.val) = ![base L + 112 * n, 0] := by
  rw [k0_off3_eq, hn]; unfold base
  rw [show 57344 * (L 1).val + 28672 * (L 0).val + 448 * t.val + 112 * r.val = 57344 * (L 1).val + 28672 * (L 0).val + 112 * (4 * t.val + r.val) by omega]

/-! ## The rules, over what follows -/

variable {α : Type} {n : ℕ} {s0 s1 s2 s3 : Slot} {q0 q1 : PosShare TreeShare × PosShare TreeShare}

omit [FloatOps F] in
/-- What both branches of a conditional end in comes after the conditional. -/
theorem dite_then {c : Prop} [Decidable c] (op : c → TP F L PUnit) (k : TP F L α) :
    (if h : c then op h >>= fun _ => k else k) = (if h : c then op h >>= fun _ => pure ⟨⟩ else pure ⟨⟩ : TP F L PUnit) >>= fun _ => k := by
  split <;> simp

/-- A returned value. -/
theorem then_pure {Q : α → sProp 𝕄} {R : sProp 𝕄} {a : α} (h : R ⊢ Q a) : R ⊢ wpT (pure a : TP F L α) Q := by
  rw [wp_pure]; exact h.trans fupd_intro

/-- One program after another. -/
theorem then_seq {Q : α → sProp 𝕄} {β : Type} {R R' : sProp 𝕄} {p : TP F L β} {k : β → TP F L α} (h : R ⊢ wpT p fun _ => R') (h' : ∀ b, R' ⊢ wpT (k b) Q) : R ⊢ wpT (p >>= k) Q := by
  rw [wp_bind]; exact h.trans (wp_mono frame _ _ fun b => h' b)

/-- A rule in its premise-passing form, from its continuation-passing one. -/
theorem then_rule {Q : α → sProp 𝕄} {R R' : sProp 𝕄} {p : TP F L PUnit} {k : PUnit → TP F L α} (h : ∀ Q' : PUnit → sProp 𝕄, R ⊢ iprop((R' -∗ Q' ⟨⟩) -∗ wpT p Q'))
    (h' : R' ⊢ wpT (k ⟨⟩) Q) : R ⊢ wpT (p >>= k) Q := by
  refine then_seq d L (R' := R') ?_ (fun _ => h')
  iintro H
  iapply (h _) $$ H
  iintro H
  iexact H

/-- The step's wait for its gather, then the rest. -/
theorem then_wait (hn : n < 256) {Q : α → sProp 𝕄} {ob : Fin 3 → ℕ} {h1 : ∀ a, ob a + S1x112x128.size a ≤ S4x112x128.size a}
    {h3 : ∀ a, (![0, 0] : Fin 2 → ℕ) a + S1000000x128.size a ≤ S1000000x128.size a} {k : PUnit → TP F L α}
    (h' : ringA d L T X O W g₀ n s0 s1 s2 s3 q0 q1 ⊢ wpT (k ⟨⟩) Q) :
    ring d L T X O W g₀ n s0 s1 s2 s3 q0 q1
      ⊢ wpT (SparseCore.waitIndirectGather s0.g (tblM h3) (slotM ob h1) (View.wordExact_bits rfl) ((View.wordExact_bits rfl).reshape _ _) >>= k) Q :=
  then_rule d L (fun _ => step_wait d L T X O W g₀ hn) h'

/-- The step's write-out, then the rest. -/
theorem then_out (hn : n < 256) {Q : α → sProp 𝕄} {ob : Fin 3 → ℕ} {oo : Fin 2 → ℕ} (hb : ob = ![s0.b, 0, 0]) (ho : oo = ![base L + 112 * n, 0])
    {h1 : ∀ a, ob a + S1x112x128.size a ≤ S4x112x128.size a} {h2 : ∀ a, oo a + S112x128.size a ≤ S917504x128.size a} {k : PUnit → TP F L α}
    (h' : ringB d L T X O W g₀ n s0 s1 s2 s3 q0 q1 ⊢ wpT (k ⟨⟩) Q) :
    ringA d L T X O W g₀ n s0 s1 s2 s3 q0 q1
      ⊢ wpT (Prog.lift (.enqueueDma (slotM ob h1) (.here (outM oo h2)) (.dma s0.o) ((View.wordExact_bits rfl).reshape _ _) (View.wordExact_bits rfl)
            ⟨Or.inl rfl, trivial⟩) >>= k) Q :=
  then_rule d L (fun _ => step_out d L T X O W g₀ hn hb ho) h'

/-- The step's wait for an earlier write-out, then the rest. -/
theorem then_free {Q : α → sProp 𝕄} {c : Prop} [Decidable c] (hc : c ↔ 2 ≤ n) {ob : Fin 3 → ℕ} {oo : Fin 2 → ℕ}
    {h1 : ∀ a, ob a + S1x112x128.size a ≤ S4x112x128.size a} {h2 : c → ∀ a, oo a + S112x128.size a ≤ S917504x128.size a} {k : TP F L α}
    (h' : ringC d L T X O W g₀ n s0 s1 s2 s3 q0 q1 ⊢ wpT k Q) :
    ringB d L T X O W g₀ n s0 s1 s2 s3 q0 q1
      ⊢ wpT (if h : c then
            Prog.lift (.waitDma2 s2.o (slotM ob h1) (outM oo (h2 h)) ((View.wordExact_bits rfl).reshape _ _) (View.wordExact_bits rfl)) >>= fun _ => k
          else k) Q := by
  rw [dite_then]
  exact then_rule d L (fun _ => step_free d L T X O W g₀ hc) h'

/-- The step's gather of a later chunk, then the rest. -/
theorem then_gather (hX : ∀ j, (X j).toNat < 1000000) {Q : α → sProp 𝕄} {c : Prop} [Decidable c] (hc : c ↔ n + 2 < 256) {ob : Fin 3 → ℕ} {ol : Fin 1 → ℕ}
    (hb : ob = ![s2.b, 0, 0]) (hl : c → ol = ![112 * (n + 2)])
    {h1 : ∀ a, ob a + S1x112x128.size a ≤ S4x112x128.size a} {h2 : c → ∀ a, ol a + S112.size a ≤ S28672.size a}
    {h3 : ∀ a, (![0, 0] : Fin 2 → ℕ) a + S1000000x128.size a ≤ S1000000x128.size a} {k : TP F L α}
    (h' : ring d L T X O W g₀ (n + 1) s1 s2 s3 s0 q1 q0 ⊢ wpT k Q) :
    ringC d L T X O W g₀ n s0 s1 s2 s3 q0 q1
      ⊢ wpT (if h : c then
            SparseCore.enqueueIndirectGather rfl (tblM h3) (slotM ob h1) gathers_S1000000x128_S112x128 (listM ol (h2 h)) rfl s2.g
              (View.wordExact_bits rfl) rfl (Or.inl rfl) >>= fun _ => k
          else k) Q := by
  rw [dite_then]
  exact then_rule d L (fun _ => step_gather d L T X O W g₀ hX hc hb hl) h'

/-! ## A trip of the loop -/

seal k0_cond1 k0_cond2 k0_cond3 k0_cond4 k0_cond5 k0_cond6 k0_cond7 k0_cond8
seal k0_off3 k0_off4 k0_off5 k0_off6 k0_off7 k0_off8 k0_off9 k0_off10 k0_off11

/-- A trip's first step. -/
theorem part1 (hX : ∀ j, (X j).toNat < 1000000) (v2 c0 c1 : BitVec 32) (t : Fin k0_t1_loop.trips) (hn : 4 * t.val < 256) :
    ring d L T X O W g₀ (4 * t.val) sA sB sC sD qA qB
      ⊢ wpT (k0_part1 L tV (Memref.isWhole_whole _) iV (Memref.isWhole_whole _) oV (Memref.isWhole_whole _)
          sV (Memref.isWhole_whole _) rV (Memref.isWhole_whole _) cc0_scratch2 cc0_scratch3 cc0_scratch4 cc0_scratch5
          cc0_scratch6 cc0_scratch7 cc0_scratch8 cc0_scratch9 cc0_scoped0 v2 c0 c1 t)
        fun _ => ring d L T X O W g₀ (4 * t.val + 1) sB sC sD sA qB qA := by
  rw [k0_part1_eq_skeleton]; unfold k0_part1_skel
  refine then_wait d L T X O W g₀ hn ?_
  refine then_out d L T X O W g₀ hn rfl (off_out L t 0 rfl) ?_
  refine then_free d L T X O W g₀ (cond1_iff t) ?_
  refine then_gather d L T X O W g₀ hX (cond2_iff t) rfl (fun _ => (k0_off5_eq t).trans (congrArg (fun z => ![z]) (by omega))) ?_
  exact then_pure d L (Entails.refl _)

/-- A trip's second step, and its third's wait. -/
theorem part2 (hX : ∀ j, (X j).toNat < 1000000) (v2 v27 v51 : BitVec 32) (t : Fin k0_t1_loop.trips) (hn : 4 * t.val + 1 < 256)
    (hn' : 4 * t.val + 1 + 1 < 256) :
    ring d L T X O W g₀ (4 * t.val + 1) sB sC sD sA qB qA
      ⊢ wpT (k0_part2 L tV (Memref.isWhole_whole _) iV (Memref.isWhole_whole _) oV (Memref.isWhole_whole _)
          sV (Memref.isWhole_whole _) rV (Memref.isWhole_whole _) cc0_scratch2 cc0_scratch3 cc0_scratch4 cc0_scratch5
          cc0_scratch6 cc0_scratch7 cc0_scratch8 cc0_scratch9 cc0_scoped0 v2 t v27 v51)
        fun _ => ringA d L T X O W g₀ (4 * t.val + 1 + 1) sC sD sA sB qA qB := by
  rw [k0_part2_eq_skeleton]; unfold k0_part2_skel
  refine then_wait d L T X O W g₀ hn ?_
  refine then_out d L T X O W g₀ hn rfl (off_out L t 1 rfl) ?_
  refine then_free d L T X O W g₀ (cond3_iff t) ?_
  refine then_gather d L T X O W g₀ hX (cond4_iff t) rfl (fun _ => (k0_off7_eq t).trans (congrArg (fun z => ![z]) (by omega))) ?_
  refine then_wait d L T X O W g₀ hn' ?_
  exact then_pure d L (Entails.refl _)

/-- The rest of a trip's third step, and its fourth's wait and write-out. -/
theorem part3 (hX : ∀ j, (X j).toNat < 1000000) (v2 v27 v73 : BitVec 32) (t : Fin k0_t1_loop.trips) (hn : 4 * t.val + 1 + 1 < 256)
    (hn' : 4 * t.val + 1 + 1 + 1 < 256) :
    ringA d L T X O W g₀ (4 * t.val + 1 + 1) sC sD sA sB qA qB
      ⊢ wpT (k0_part3 L tV (Memref.isWhole_whole _) iV (Memref.isWhole_whole _) oV (Memref.isWhole_whole _)
          sV (Memref.isWhole_whole _) rV (Memref.isWhole_whole _) cc0_scratch2 cc0_scratch3 cc0_scratch4 cc0_scratch5
          cc0_scratch6 cc0_scratch7 cc0_scratch8 cc0_scratch9 cc0_scoped0 v2 t v27 v73)
        fun _ => ringB d L T X O W g₀ (4 * t.val + 1 + 1 + 1) sD sA sB sC qB qA := by
  rw [k0_part3_eq_skeleton]; unfold k0_part3_skel
  refine then_out d L T X O W g₀ hn rfl (off_out L t 2 rfl) ?_
  refine then_free d L T X O W g₀ (cond5_iff t) ?_
  refine then_gather d L T X O W g₀ hX (cond6_iff t) rfl (fun _ => (k0_off9_eq t).trans (congrArg (fun z => ![z]) (by omega))) ?_
  refine then_wait d L T X O W g₀ hn' ?_
  refine then_out d L T X O W g₀ hn' rfl (off_out L t 3 rfl) ?_
  exact then_pure d L (Entails.refl _)

set_option maxHeartbeats 2000000 in
/-- One trip of the loop: four steps of the ring. -/
theorem trip (hX : ∀ j, (X j).toNat < 1000000) (v2 : BitVec 32) (t : Fin k0_t1_loop.trips) (u : Unit) :
    ring d L T X O W g₀ (4 * t.val) sA sB sC sD qA qB
      ⊢ wpT (k0_t1_body L tV (Memref.isWhole_whole _) iV (Memref.isWhole_whole _) oV (Memref.isWhole_whole _)
          sV (Memref.isWhole_whole _) rV (Memref.isWhole_whole _) cc0_scratch2 cc0_scratch3 cc0_scratch4 cc0_scratch5
          cc0_scratch6 cc0_scratch7 cc0_scratch8 cc0_scratch9 cc0_scoped0 v2 t u)
        fun _ => ring d L T X O W g₀ (4 * (t.val + 1)) sA sB sC sD qA qB := by
  have ht : t.val < 64 := Nat.lt_of_lt_of_eq t.isLt trips_eq
  unfold k0_t1_body
  refine then_seq d L (part1 d L T X O W g₀ qA qB hX v2 _ _ t (by omega)) fun p => ?_
  refine then_seq d L (part2 d L T X O W g₀ qA qB hX v2 _ _ t (by omega) (by omega)) fun p => ?_
  refine then_seq d L (part3 d L T X O W g₀ qA qB hX v2 _ _ t (by omega) (by omega)) fun p => ?_
  refine then_free d L T X O W g₀ (cond7_iff t) ?_
  refine then_gather d L T X O W g₀ hX (cond8_iff t) rfl (fun _ => (k0_off11_eq t).trans (congrArg (fun z => ![z]) (by omega))) ?_
  exact then_pure d L (Entails.of_eq (by rw [show 4 * (t.val + 1) = 4 * t.val + 1 + 1 + 1 + 1 by omega]))

/-- The loop: the ring turned 256 steps. -/
theorem loop (hX : ∀ j, (X j).toNat < 1000000) (v2 : BitVec 32) :
    ring d L T X O W g₀ 0 sA sB sC sD qA qB
      ⊢ wpT (Scf.Loop.for k0_t1_loop k0_t1_ok ⟨⟩ (k0_t1_body L tV (Memref.isWhole_whole _) iV (Memref.isWhole_whole _) oV (Memref.isWhole_whole _)
          sV (Memref.isWhole_whole _) rV (Memref.isWhole_whole _) cc0_scratch2 cc0_scratch3 cc0_scratch4 cc0_scratch5
          cc0_scratch6 cc0_scratch7 cc0_scratch8 cc0_scratch9 cc0_scoped0 v2))
        fun _ => ring d L T X O W g₀ 256 sA sB sC sD qA qB := by
  iintro H
  iapply (Scf.wp_for frame (wpE (defs₀ (F := F)) 𝒱₀ (thr d L) none) Set.univ _ _ _ k0_t1_ok _ _
    (fun k _ => ring d L T X O W g₀ (4 * k) sA sB sC sD qA qB) (fun t u => trip d L T X O W g₀ qA qB hX v2 t u))
  isplitl [H]; · iexact H
  iintro %a H
  have e : 4 * Scf.trips k0_t1_loop.lb k0_t1_loop.ub k0_t1_loop.st = 256 := congrArg (4 * ·) trips_eq
  rw [e]
  iexact H

/-! ## Before and after the loop -/

/-- The credit of the list's fetch. -/
abbrev NI : ℕ := (sV).view.dmaCredit
theorem NI_pos : 0 < NI := View.dmaCredit_pos _ (by decide)

/-- What the fetch of the tile's list writes. -/
theorem fetch_value {oi : Fin 1 → ℕ} (hoi : oi = ![base L]) (h : ∀ a, oi a + S28672.size a ≤ S917504.size a) (fs : S28672.Idx → BitVec 32) :
    (sV).view.write (Elt F) fs (ReadAs.same.apply ((inM oi h).view.read (Elt F) X)) Finset.univ = sX L X := by
  refine (View.write_whole_univ _ _ _).trans (funext fun j => ?_)
  show (inM oi h).view.read (Elt F) X j = _
  rw [(View.read_apply _ _).trans (cast_eq _ _)]
  refine congrArg X (funext fun a => Fin.ext ?_)
  match a with
  | 0 => exact emb_inM hoi h j

/-- Issuing the fetch of the tile's list. -/
theorem wp_fetch {oi : Fin 1 → ℕ} (hoi : oi = ![base L]) {h : ∀ a, oi a + S28672.size a ≤ S917504.size a} (sm : DmaSem sig) (qi : PosShare TreeShare)
    (fs : S28672.Idx → BitVec 32) {Q : PUnit → sProp 𝕄} :
    iprop((iLoc d ↦{qi} X) ∗ (sLoc d L ↦{fullShare} fs) ∗ idle (F := F) d L sm)
      ⊢ iprop((Flt d L sm NI iprop((sLoc d L ↦{fullShare} sX L X) ∗ iLoc d ↦{qi} X) -∗ Q ⟨⟩)
        -∗ wpT (Prog.lift (.enqueueDma (inM oi h) (.here sV) (.dma sm) (View.wordExact_bits rfl) (Memref.isWhole_whole _).wordExact
            ⟨Or.inl rfl, trivial⟩)) Q) := by
  iintro ⟨Hi, Hs, Hsem⟩ Hk
  ihave Hsp := (pointsTo_split_subset (q := qi) (f := X) (S := Finset.univ) (Finset.subset_univ (inM oi h).view.set)).1 $$ Hi
  icases Hsp with ⟨Hi, Hrest⟩
  iapply (Transfers.wp_dmaLocal countersEmb 𝒱₀ (thr d L) none (q := qi) (sm := SemLoc.dma sm) (default : HIx 1) NI rfl NI_pos
    (Finset.subset_univ (sV).view.set)) $$ [Hi Hs Hsem]
  · isplitl [Hi]; · iexact Hi
    isplitl [Hs]; · iexact Hs
    iexact Hsem
  iintro Hfl
  rw [wp_ret]
  imodintro
  iapply Hk
  ihave Hfl' := (flt_frame d L sm NI _ _) $$ [Hfl Hrest]
  · isplitl [Hfl]; · iexact Hfl
    iexact Hrest
  iapply (flt_mono d L sm NI (R' := iprop((sLoc d L ↦{fullShare} sX L X) ∗ iLoc d ↦{qi} X)) ?_) $$ Hfl'
  iintro ⟨⟨Hs, Hi⟩, Hrest⟩
  isplitl [Hs]
  · rw [fetch_value L X hoi h fs]; iexact Hs
  iapply (pointsTo_split_subset (q := qi) (f := X) (S := Finset.univ) (Finset.subset_univ (inM oi h).view.set)).2
  isplitl [Hi] <;> iassumption

theorem range4 : Finset.range 4 = ({0, 1, 2, 3} : Finset ℕ) := by decide
theorem slots_disjoint : ∀ t ∈ Finset.range 4, ∀ t' ∈ Finset.range 4, t ≠ t' → Disjoint (slotSet t) (slotSet t') := by
  intro t _ t' _ h
  rw [Finset.disjoint_left]; intro i; simp only [mem_slotSet]; omega
theorem slots_cover : (Finset.range 4).biUnion slotSet = Finset.univ := by
  ext i
  simp only [Finset.mem_biUnion, Finset.mem_range, mem_slotSet, Finset.mem_univ, iff_true]
  exact ⟨_, (i 0).isLt, rfl⟩

omit [FloatOps F] in
theorem four (Φ : ℕ → sProp 𝕄) : bigSep (Finset.range 4) Φ = iprop(Φ 0 ∗ Φ 1 ∗ Φ 2 ∗ Φ 3) := by
  rw [range4, SparseCore.bigSep_insert' (by decide), SparseCore.bigSep_insert' (by decide), SparseCore.bigSep_insert' (by decide), bigSep_singleton]

theorem slot_any (f : S4x112x128.Idx → Elt F .f32) (b : ℕ) : (rLoc d L ↦[slotSet b]{fullShare} f : sProp 𝕄) ⊢ slotAny (F := F) d L b := by
  unfold slotAny
  iintro H; iexists f; iexact H

/-- The ring's buffer is its four slots. -/
theorem slots_split (f : S4x112x128.Idx → Elt F .f32) :
    (rLoc d L ↦{fullShare} f : sProp 𝕄) ⊢ iprop(slotAny (F := F) d L 0 ∗ slotAny (F := F) d L 1 ∗ slotAny (F := F) d L 2 ∗ slotAny (F := F) d L 3) := by
  rw [← four (fun b => slotAny (F := F) d L b), ← slots_cover,
    pointsTo_biUnion (ℓ := rLoc d L) (f := f) (q := fullShare) (Finset.range 4) slotSet slots_disjoint]
  exact bigSep_mono fun b _ => slot_any d L f b

theorem slots_join :
    iprop(slotAny (F := F) d L 0 ∗ slotAny (F := F) d L 1 ∗ slotAny (F := F) d L 2 ∗ slotAny (F := F) d L 3) ⊢ (iprop(∃ f, rLoc d L ↦{fullShare} f) : sProp 𝕄) := by
  rw [← four (fun b => slotAny (F := F) d L b)]
  unfold slotAny
  refine (bigSep_exists_pi (Finset.range 4) (fun b (f : Buf (Elt F) (rLoc d L)) => (rLoc d L ↦[slotSet b]{fullShare} f : sProp 𝕄))).trans ?_
  iintro ⟨%fs, H⟩
  ihave H' := (pointsTo_biUnion_join (ℓ := rLoc d L) (q := fullShare) (Val := Elt F) (Finset.range 4) slotSet fs (fs 0) slots_disjoint) $$ H
  icases H' with ⟨%g, -, Hg⟩
  rw [slots_cover]
  iexists g; iexact Hg

/-- The ring before its first step: two gathers in flight, nothing written out. -/
theorem ring_start :
    iprop(Flt d L sA.g NG (gatherD d L T X 0 0 qA.1 qA.2) ∗ Flt d L sB.g NG (gatherD d L T X 1 1 qB.1 qB.2)
        ∗ idle (F := F) d L sC.g ∗ idle (F := F) d L sD.g ∗ idle (F := F) d L sA.o ∗ idle (F := F) d L sB.o
        ∗ (slotAny (F := F) d L 2 ∗ idle (F := F) d L sC.o) ∗ (slotAny (F := F) d L 3 ∗ idle (F := F) d L sD.o)
        ∗ rows d g₀ (base L) (base L + 28672) ∗ book (F := F) d L O W)
      ⊢ ring d L T X O W g₀ 0 sA sB sC sD qA qB := by
  have e0 : gFly d L T X 0 sA qA = Flt d L sA.g NG (gatherD d L T X 0 0 qA.1 qA.2) := fly_pos d L (by decide) _ _ _ _
  have e1 : gFly d L T X (0 + 1) sB qB = Flt d L sB.g NG (gatherD d L T X 1 1 qB.1 qB.2) := fly_pos d L (by decide) _ _ _ _
  have e2 : oFly d L T X 0 sC = iprop(slotAny (F := F) d L 2 ∗ idle (F := F) d L sC.o) := fly_neg d L (by decide) _ _ _ _
  have e3 : oFly d L T X (0 + 1) sD = iprop(slotAny (F := F) d L 3 ∗ idle (F := F) d L sD.o) := fly_neg d L (by decide) _ _ _ _
  have e4 : (done d L T X (0 - 2) : sProp 𝕄) = iprop(emp) := by
    show (rows d (G T X) (base L) (base L + 112 * (0 - 2)) : sProp 𝕄) = _
    unfold rows; rw [rng_empty (by omega), pointsTo_empty]
  unfold ring
  rw [e0, e1, e2, e3, e4]
  iintro ⟨H0, H1, H2, H3, H4, H5, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitr [H9]; · iempintro
  iexact H9

/-- The ring after its last step: no gather in flight, the last two chunks' write-outs still to be awaited. -/
theorem ring_end :
    ring d L T X O W g₀ 256 sA sB sC sD qA qB
      ⊢ iprop(((slotAny (F := F) d L 0 ∗ tok d L T X qA.1 qA.2) ∗ idle (F := F) d L sA.g) ∗ ((slotAny (F := F) d L 1 ∗ tok d L T X qB.1 qB.2) ∗ idle (F := F) d L sB.g)
        ∗ idle (F := F) d L sC.g ∗ idle (F := F) d L sD.g ∗ idle (F := F) d L sA.o ∗ idle (F := F) d L sB.o
        ∗ Flt d L sC.o NO (outD d L T X 2 254) ∗ Flt d L sD.o NO (outD d L T X 3 255)
        ∗ rows d (G T X) (base L) (base L + 112 * 254) ∗ book (F := F) d L O W) := by
  have e0 : gFly d L T X 256 sA qA = iprop((slotAny (F := F) d L 0 ∗ tok d L T X qA.1 qA.2) ∗ idle (F := F) d L sA.g) := fly_neg d L (by decide) _ _ _ _
  have e1 : gFly d L T X (256 + 1) sB qB = iprop((slotAny (F := F) d L 1 ∗ tok d L T X qB.1 qB.2) ∗ idle (F := F) d L sB.g) := fly_neg d L (by decide) _ _ _ _
  have e2 : oFly d L T X 256 sC = Flt d L sC.o NO (outD d L T X 2 254) := fly_pos d L (by decide) _ _ _ _
  have e3 : oFly d L T X (256 + 1) sD = Flt d L sD.o NO (outD d L T X 3 255) := fly_pos d L (by decide) _ _ _ _
  unfold ring
  rw [e0, e1, e2, e3]
  iintro ⟨H0, H1, H2, H3, H4, H5, H6, H7, -, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

variable (qi qt : PosShare TreeShare)

/-- A points-to at a share is its two halves. -/
theorem halves {ℓ : Loc nD τ sig} (q : PosShare TreeShare) (f : Buf (Elt F) ℓ) : (ℓ ↦{q} f : sProp 𝕄) = iprop((ℓ ↦{q.left} f) ∗ ℓ ↦{q.right} f) :=
  BI.Entails.antisymm (pointsTo_share (PosShare.mem_left_op_right q)).1 (pointsTo_share (PosShare.mem_left_op_right q)).2

/-- What the task keeps throughout, at its last wait: the row numbers, the table, the list's buffer, the cells at zero, the rows written and awaited. -/
def kept : sProp 𝕄 :=
  iprop((iLoc d ↦{qi} X) ∗ (tLoc d ↦{qt} T) ∗ (∃ f, sLoc d L ↦{fullShare} f)
    ∗ idle (F := F) d L cc0_scoped0.sem ∗ idle (F := F) d L sA.g ∗ idle (F := F) d L sB.g ∗ idle (F := F) d L sC.g ∗ idle (F := F) d L sD.g
    ∗ idle (F := F) d L sA.o ∗ idle (F := F) d L sB.o ∗ idle (F := F) d L sC.o)

set_option maxHeartbeats 4000000 in
/-- The task up to its last wait. -/
theorem part4 (hX : ∀ j, (X j).toNat < 1000000) (fs : S28672.Idx → BitVec 32) (fr : S4x112x128.Idx → Elt F .f32) :
    iprop((iLoc d ↦{qi} X) ∗ (tLoc d ↦{qt} T) ∗ rows d g₀ (base L) (base L + 28672) ∗ (sLoc d L ↦{fullShare} fs) ∗ (rLoc d L ↦{fullShare} fr)
        ∗ idle (F := F) d L cc0_scoped0.sem ∗ idle (F := F) d L sA.g ∗ idle (F := F) d L sB.g ∗ idle (F := F) d L sC.g ∗ idle (F := F) d L sD.g
        ∗ idle (F := F) d L sA.o ∗ idle (F := F) d L sB.o ∗ idle (F := F) d L sC.o ∗ idle (F := F) d L sD.o ∗ book (F := F) d L O W)
      ⊢ wpT (k0_part4 L tV (Memref.isWhole_whole _) iV (Memref.isWhole_whole _) oV (Memref.isWhole_whole _)
          sV (Memref.isWhole_whole _) rV (Memref.isWhole_whole _) cc0_scratch2 cc0_scratch3 cc0_scratch4 cc0_scratch5
          cc0_scratch6 cc0_scratch7 cc0_scratch8 cc0_scratch9 cc0_scoped0)
        fun _ => iprop(kept d L T X qi qt ∗ (slotAny (F := F) d L 0 ∗ slotAny (F := F) d L 1 ∗ slotAny (F := F) d L 2)
          ∗ Flt d L sD.o NO (outD d L T X 3 255) ∗ rows d (G T X) (base L) (base L + 112 * 255) ∗ book (F := F) d L O W) := by
  rw [k0_part4_eq_skeleton]; unfold k0_part4_skel
  simp only [wp_bind, wp_pure]
  unfold book
  iintro ⟨Hi, Ht, Ho, Hs, Hr, HsF, Hg0, Hg1, Hg2, Hg3, Ho0, Ho1, Ho2, Ho3, HO, #Hmw⟩
  iapply (wp_fetch d L X (k0_off1_eq L) cc0_scoped0.sem qi fs) $$ [Hi Hs HsF]
  · isplitl [Hi]; · iexact Hi
    isplitl [Hs] <;> iassumption
  iintro Hfl
  iapply (wp_await d L (N := NI) rfl) $$ [Hfl HO]
  · isplitl [Hfl]; · iexact Hfl
    isplitl [HO]; · iexact HO
    iexact Hmw
  iintro ⟨⟨Hs, Hi⟩, HsF, HO⟩
  ihave Hr' := (slots_split d L fr) $$ Hr
  icases Hr' with ⟨Hr0, Hr1, Hr2, Hr3⟩
  ihave Hs' := (Entails.of_eq (halves fullShare (sX L X))) $$ Hs
  icases Hs' with ⟨HsL, HsR⟩
  ihave Ht' := (Entails.of_eq (halves qt T)) $$ Ht
  icases Ht' with ⟨HtL, HtR⟩
  iapply (wp_gather d L T X hX (b := 0) (n := 0) rfl rfl sA.g qt.left fullShare.left) $$ [Hr0 HtL HsL Hg0]
  · unfold tok
    isplitl [Hr0]; · iexact Hr0
    isplitl [HtL HsL]; · isplitl [HtL] <;> iassumption
    iexact Hg0
  iintro Hf0
  iapply (wp_gather d L T X hX (b := 1) (n := 1) rfl rfl sB.g qt.right fullShare.right) $$ [Hr1 HtR HsR Hg1]
  · unfold tok
    isplitl [Hr1]; · iexact Hr1
    isplitl [HtR HsR]; · isplitl [HtR] <;> iassumption
    iexact Hg1
  iintro Hf1
  ihave Hring := (ring_start d L T X O W g₀ (qt.left, fullShare.left) (qt.right, fullShare.right)) $$ [Hf0 Hf1 Hg2 Hg3 Ho0 Ho1 Hr2 Ho2 Hr3 Ho3 Ho HO]
  · isplitl [Hf0]; · iexact Hf0
    isplitl [Hf1]; · iexact Hf1
    isplitl [Hg2]; · iexact Hg2
    isplitl [Hg3]; · iexact Hg3
    isplitl [Ho0]; · iexact Ho0
    isplitl [Ho1]; · iexact Ho1
    isplitl [Hr2 Ho2]; · isplitl [Hr2] <;> iassumption
    isplitl [Hr3 Ho3]; · isplitl [Hr3] <;> iassumption
    isplitl [Ho]; · iexact Ho
    unfold book
    isplitl [HO]; · iexact HO
    iexact Hmw
  iapply (wp_wand_r frame (wpE (defs₀ (F := F)) 𝒱₀ (thr d L) none) Set.univ)
  isplitl [Hring]
  · iapply (loop d L T X O W g₀ (qt.left, fullShare.left) (qt.right, fullShare.right) hX _) $$ Hring
  iintro %u Hring
  ihave Hend := (ring_end d L T X O W g₀ (qt.left, fullShare.left) (qt.right, fullShare.right)) $$ Hring
  unfold book tok
  icases Hend with ⟨⟨⟨Hr0, HtL, HsL⟩, Hg0⟩, ⟨⟨Hr1, HtR, HsR⟩, Hg1⟩, Hg2, Hg3, Ho0, Ho1, HfC, HfD, Hd, HO, -⟩
  iapply (wp_await d L (N := NO) (out_credit _ _)) $$ [HfC HO]
  · isplitl [HfC]; · iexact HfC
    isplitl [HO]; · iexact HO
    iexact Hmw
  unfold outD
  iintro ⟨⟨Hd', Hr2⟩, Ho2, HO⟩
  imodintro
  isplitl [Hi HtL HtR HsL HsR HsF Hg0 Hg1 Hg2 Hg3 Ho0 Ho1 Ho2]
  · unfold kept
    isplitl [Hi]; · iexact Hi
    isplitl [HtL HtR]
    · iapply (Entails.of_eq (halves qt T).symm); isplitl [HtL] <;> iassumption
    isplitl [HsL HsR]
    · iexists (sX L X); iapply (Entails.of_eq (halves fullShare (sX L X)).symm); isplitl [HsL] <;> iassumption
    isplitl [HsF]; · iexact HsF
    isplitl [Hg0]; · iexact Hg0
    isplitl [Hg1]; · iexact Hg1
    isplitl [Hg2]; · iexact Hg2
    isplitl [Hg3]; · iexact Hg3
    isplitl [Ho0]; · iexact Ho0
    isplitl [Ho1]; · iexact Ho1
    iexact Ho2
  isplitl [Hr0 Hr1 Hr2]
  · isplitl [Hr0]; · iexact Hr0
    isplitl [Hr1] <;> iassumption
  isplitl [HfD]; · iexact HfD
  isplitl [Hd Hd']
  · iapply (Entails.of_eq (rows_cut d (G T X) (show base L ≤ base L + 112 * 254 by omega) (show base L + 112 * 254 ≤ base L + 112 * 254 + 112 by omega)).symm)
    isplitl [Hd] <;> iassumption
  isplitl [HO]; · iexact HO
  iexact Hmw

set_option maxHeartbeats 4000000 in
/-- The whole task: the tile's rows of the result looked up, all else back as it was. -/
theorem task (hX : ∀ j, (X j).toNat < 1000000) (fs : S28672.Idx → BitVec 32) (fr : S4x112x128.Idx → Elt F .f32) :
    iprop((iLoc d ↦{qi} X) ∗ (tLoc d ↦{qt} T) ∗ rows d g₀ (base L) (base L + 28672) ∗ (sLoc d L ↦{fullShare} fs) ∗ (rLoc d L ↦{fullShare} fr)
        ∗ idle (F := F) d L cc0_scoped0.sem ∗ idle (F := F) d L sA.g ∗ idle (F := F) d L sB.g ∗ idle (F := F) d L sC.g ∗ idle (F := F) d L sD.g
        ∗ idle (F := F) d L sA.o ∗ idle (F := F) d L sB.o ∗ idle (F := F) d L sC.o ∗ idle (F := F) d L sD.o ∗ book (F := F) d L O W)
      ⊢ wpT (cc0_k L tV (Memref.isWhole_whole _) iV (Memref.isWhole_whole _) oV (Memref.isWhole_whole _)
          sV (Memref.isWhole_whole _) rV (Memref.isWhole_whole _) cc0_scratch2 cc0_scratch3 cc0_scratch4 cc0_scratch5
          cc0_scratch6 cc0_scratch7 cc0_scratch8 cc0_scratch9 cc0_scoped0)
        fun _ => iprop(kept d L T X qi qt ∗ (∃ f, rLoc d L ↦{fullShare} f) ∗ idle (F := F) d L sD.o
          ∗ rows d (G T X) (base L) (base L + 28672) ∗ owesN (F := F) d L O W) := by
  rw [cc0_k_eq_skeleton]; unfold cc0_k_skel
  refine then_seq d L (part4 d L T X O W g₀ qi qt hX fs fr) fun _ => ?_
  simp only [wp_bind, wp_pure]
  unfold book
  iintro ⟨Hk, ⟨Hr0, Hr1, Hr2⟩, HfD, Hd, HO, #Hmw⟩
  iapply (wp_await d L (N := NO) (out_credit _ _)) $$ [HfD HO]
  · isplitl [HfD]; · iexact HfD
    isplitl [HO]; · iexact HO
    iexact Hmw
  unfold outD
  iintro ⟨⟨Hd', Hr3⟩, Ho3, HO⟩
  imodintro
  isplitl [Hk]; · iexact Hk
  isplitl [Hr0 Hr1 Hr2 Hr3]
  · iapply (slots_join d L)
    isplitl [Hr0]; · iexact Hr0
    isplitl [Hr1]; · iexact Hr1
    isplitl [Hr2] <;> iassumption
  isplitl [Ho3]; · iexact Ho3
  isplitl [Hd Hd']
  · iapply (Entails.of_eq (rows_cut d (G T X) (show base L ≤ base L + 112 * 255 by omega) (show base L + 112 * 255 ≤ base L + 28672 by omega)).symm)
    isplitl [Hd] <;> iassumption
  iexact HO

end Tile

end Cert.Proof.Lookup

end
-- ==== Proof.Launch.lean ====
/-
  The call as its threads meet it: what each tile of the launch is handed and hands back, the tile's task under those
  terms, and the whole arrays cut into the 32 tiles' parts and put together again.
-/
module

public import proofs.«01_k».proof.Proof.Tile

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "tV" => (Memref.whole Cert.KernelIdeal.main_v2_scv : Memref Cert.KernelIdeal.sig Kind.scVector Space.hbm Cert.KernelIdeal.S1000000x128 EltTy.f32)
local notation "iV" => (Memref.whole Cert.KernelIdeal.main_v1_scv : Memref Cert.KernelIdeal.sig Kind.scVector Space.hbm Cert.KernelIdeal.S917504 EltTy.i32)
local notation "oV" => (Memref.whole Cert.KernelIdeal.main_v3_scv : Memref Cert.KernelIdeal.sig Kind.scVector Space.hbm Cert.KernelIdeal.S917504x128 EltTy.f32)
local notation "sV" => (Memref.whole Cert.KernelIdeal.cc0_scratch0 : Memref Cert.KernelIdeal.sig Kind.scVector Space.vmem Cert.KernelIdeal.S28672 EltTy.i32)
local notation "rV" => (Memref.whole Cert.KernelIdeal.cc0_scratch1 : Memref Cert.KernelIdeal.sig Kind.scVector Space.vmem Cert.KernelIdeal.S4x112x128 EltTy.f32)

/-! ## A tile's own semaphores and scratch -/

section Tile

variable (d : Dev nD) (L : grid0.Coords)

/-- The nine DMA semaphores the task uses. -/
def sems : Finset (DmaSem sig) := {cc0_scoped0.sem, sA.g, sB.g, sC.g, sD.g, sA.o, sB.o, sC.o, sD.o}

/-- A tile's DMA semaphore as a cell of the machine. -/
def semCell : DmaSem sig ↪ GSem nD τ sig :=
  ⟨fun s => (thr d L, SemLoc.dma s), fun _ _ h => SemLoc.dma.inj (Prod.mk.inj h).2⟩

theorem sems_scoped : ∀ s ∈ sems, (SemLoc.dma s : SemLoc sig).isScoped .scVector = true := by decide

theorem sems_sub : sems.map (semCell d L) ⊆ ownCells (thr d L) := by
  intro g hg
  obtain ⟨s, hs, rfl⟩ := Finset.mem_map.mp hg
  exact mem_ownCells.mpr ⟨rfl, sems_scoped s hs⟩

/-- The tile's other semaphores, all at zero. -/
def restSems : sProp 𝕄 := bigSep (ownCells (thr d L) \ sems.map (semCell d L)) fun g => semVal g 0

/-- A tile's semaphores at zero: the nine the task uses and the rest. -/
theorem ownSems0_V :
    (ownSems0 (thr d L) : sProp 𝕄)
      = iprop((idle (F := F) d L cc0_scoped0.sem ∗ idle (F := F) d L sA.g ∗ idle (F := F) d L sB.g ∗ idle (F := F) d L sC.g ∗ idle (F := F) d L sD.g
          ∗ idle (F := F) d L sA.o ∗ idle (F := F) d L sB.o ∗ idle (F := F) d L sC.o ∗ idle (F := F) d L sD.o) ∗ restSems d L) := by
  unfold SparseCore.Cfg.ownSems0 restSems
  rw [SparseCore.bigSep_sdiff_split' (sems_sub d L), BI.bigSep_map]
  congr 1
  unfold sems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-- The tile's other private buffers. -/
def restBufs : sProp 𝕄 :=
  bigSep (((ownRefs (τ := τ) (.scVector (cV L) (jV L))).erase ((Proc.scVector (cV L) (jV L)).devRef cc0_scratch0)).erase
    ((Proc.scVector (cV L) (jV L)).devRef cc0_scratch1)) fun b => iprop(∃ f, ((d, b) : Loc nD τ sig) ↦{fullShare} f)

/-- A tile's private buffers: its list, its ring and the rest. -/
theorem ownBufs_V :
    (ownBufs (thr d L) : sProp 𝕄)
      = iprop((∃ f, sLoc d L ↦{fullShare} f) ∗ (∃ f, rLoc d L ↦{fullShare} f) ∗ restBufs d L) := by
  have hr : (Proc.scVector (cV L) (jV L)).devRef cc0_scratch1 ≠ (Proc.scVector (cV L) (jV L)).devRef (τ := τ) cc0_scratch0 :=
    fun e => absurd (Proc.devRef_injective _ e) (show (cc0_scratch1 : Ref sig .scVector) ≠ cc0_scratch0 by decide)
  unfold SparseCore.Cfg.ownBufs restBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hr, SparseCore.Cfg.mem_ownRefs_of_owner (p := Proc.scVector (cV L) (jV L))
    (b := (Proc.scVector (cV L) (jV L)).devRef cc0_scratch1) rfl⟩)]

/-! ## What a tile is handed -/

/-- Tile `(c, i)`'s share of an array all tiles read. -/
def shr (c : Fin 2) (i : Fin 16) : PosShare TreeShare :=
  Transfers.dealOf (Transfers.dealOf fullShare Finset.univ c) Finset.univ i

/-- What tile `(c, i)` holds for its task: a share of the row numbers, a share of the table, and its rows of the result
    at contents `f`. -/
def part (T : S1000000x128.Idx → Elt F .f32) (X : S917504.Idx → BitVec 32) (f : S917504x128.Idx → Elt F .f32) (c : Fin 2) (i : Fin 16) : sProp 𝕄 :=
  iprop((iLoc d ↦{shr c i} X) ∗ (tLoc d ↦{shr c i} T) ∗ rows d f (57344 * i.val + 28672 * c.val) (57344 * i.val + 28672 * c.val + 28672))

instance (T : S1000000x128.Idx → Elt F .f32) (X : S917504.Idx → BitVec 32) (f : S917504x128.Idx → Elt F .f32) (c : Fin 2) (i : Fin 16) :
    BI.Storable (upEmb : UEmb _ 𝕄) (part d T X f c i) :=
  (inferInstance : BI.Storable (upEmb : UEmb _ 𝕄) iprop((iLoc d ↦{shr c i} X) ∗ (tLoc d ↦{shr c i} T)
    ∗ rows d f (57344 * i.val + 28672 * c.val) (57344 * i.val + 28672 * c.val + 28672)))

/-- What core `c` of the call holds: its sixteen tiles' parts. -/
def half (T : S1000000x128.Idx → Elt F .f32) (X : S917504.Idx → BitVec 32) (f : S917504x128.Idx → Elt F .f32) (c : Fin 2) : sProp 𝕄 :=
  bigSep Finset.univ fun i : Fin 16 => part d T X f c i

set_option maxHeartbeats 1000000 in
/-- The task on the terms of the launch: handed its part with its rows at any contents, it hands it back with its rows
    looked up. -/
theorem tile_body (hF : (K (F := F)).Facts) (T : S1000000x128.Idx → Elt F .f32) (X : S917504.Idx → BitVec 32) (hX : ∀ j, (X j).toNat < 1000000)
    (g₀ : S917504x128.Idx → Elt F .f32) (O : CellTallies nD τ sig (HIx 1)) (W : Waits sig (HIx 1)) (hO : ∀ g, O g none = 0) (c : Fin 2) (i : Fin 16)
    (hc : (L 0).val = c.val) (hi : (L 1).val = i.val) :
    iprop(levAts (K (F := F)).L (K (F := F)).lev ∗ emp ∗ part d T X g₀ c i
        ∗ scopedBufs (thr d L) ∗ scopedSems0 (thr d L) ∗ owes (thr d L) O W)
      ⊢ wp frame (wpE (defs₀ (F := F)) 𝒱₀ (thr d L) none) Set.univ
          (cc0_k L tV (Memref.isWhole_whole _) iV (Memref.isWhole_whole _) oV (Memref.isWhole_whole _)
            sV (Memref.isWhole_whole _) rV (Memref.isWhole_whole _) cc0_scratch2 cc0_scratch3 cc0_scratch4 cc0_scratch5
            cc0_scratch6 cc0_scratch7 cc0_scratch8 cc0_scratch9 cc0_scoped0)
          fun _ => iprop(part d T X (G T X) c i ∗ scopedBufs (thr d L) ∗ scopedSems0 (thr d L)
            ∗ ∃ W', ⌜∀ p ∈ W', p ∈ W ∨ p.2 = none ∨ p.2 = some 0⌝ ∗ owes (thr d L) O W') := by
  have hb : 57344 * i.val + 28672 * c.val = base L := by unfold base; rw [hc, hi]
  rw [(K (F := F)).scopedBufs_V hF d (cV L) (jV L), SparseCore.Cfg.scopedSems0_V (Val := Elt F) d (cV L) (jV L), ownSems0_V, ownBufs_V]
  unfold part
  rw [hb]
  iintro ⟨#Hlv, -, ⟨Hi, Ht, Ho⟩, ⟨⟨%fs, Hs⟩, ⟨%fr, Hr⟩, Hbufs⟩, ⟨⟨H0, H1, H2, H3, H4, H5, H6, H7, H8⟩, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand_r frame (wpE (defs₀ (F := F)) 𝒱₀ (thr d L) none) Set.univ)
  isplitl [Hi Ht Ho Hs Hr H0 H1 H2 H3 H4 H5 H6 H7 H8 HO]
  · iapply (task d L T X O W g₀ (shr c i) (shr c i) hX fs fr)
    isplitl [Hi]; · iexact Hi
    isplitl [Ht]; · iexact Ht
    isplitl [Ho]; · iexact Ho
    isplitl [Hs]; · iexact Hs
    isplitl [Hr]; · iexact Hr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold book owesN
    isplitl [HO]
    · iexists W; isplitr
      · ipureintro; exact fun p hp => Or.inl hp
      · iexact HO
    iexact Hmw
  unfold kept owesN
  iintro %u ⟨⟨Hi, Ht, Hs, H0, H1, H2, H3, H4, H5, H6, H7⟩, Hr, H8, Ho, %W', %hW', HO⟩
  isplitl [Hi Ht Ho]
  · isplitl [Hi]; · iexact Hi
    isplitl [Ht]; · iexact Ht
    iexact Ho
  isplitl [Hs Hr Hbufs]
  · isplitl [Hs]; · iexact Hs
    isplitl [Hr]; · iexact Hr
    iexact Hbufs
  isplitl [H0 H1 H2 H3 H4 H5 H6 H7 H8 Hsems]
  · isplitr [Hsems]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact Hsems
  iexists W'; isplitr
  · ipureintro; exact fun p hp => (hW' p hp).imp_right Or.inl
  · iexact HO

end Tile

/-! ## The launch's terms and a tile's obligation -/

section Launch

variable (T : Dev nD → S1000000x128.Idx → Elt F .f32) (X : Dev nD → S917504.Idx → BitVec 32) (g₀ : Dev nD → S917504x128.Idx → Elt F .f32)

/-- The call on device `d` takes the row numbers `X d`, the table `T d` and the result at `g₀ d`, and gives them back with
    the result looked up; each core takes its tiles' parts, each tile its own. -/
def P : (K (F := F)).Pay (nD := nD) (Val := Elt F) (Name := ℕ) (U := UU) where
  st := fun q d c => match q with | 0 => half d (T d) (X d) (g₀ d) (Fin.cast nCore_zero c)
  dn := fun q d c => match q with | 0 => half d (T d) (X d) (G (T d) (X d)) (Fin.cast nCore_zero c)
  go := fun q d c i => match q with | 0 => part d (T d) (X d) (g₀ d) (Fin.cast nCore_zero c) (Fin.cast nSub_zero i)
  td := fun q d c i => match q with | 0 => part d (T d) (X d) (G (T d) (X d)) (Fin.cast nCore_zero c) (Fin.cast nSub_zero i)
  x := fun _ _ => iprop(emp)

instance half_storable (d : Dev nD) (T : S1000000x128.Idx → Elt F .f32) (X : S917504.Idx → BitVec 32) (f : S917504x128.Idx → Elt F .f32) (c : Fin 2) :
    BI.Storable (upEmb : UEmb _ 𝕄) (half d T X f c) :=
  (inferInstance : BI.Storable (upEmb : UEmb _ 𝕄) (bigSep Finset.univ fun i : Fin 16 => part d T X f c i))

instance P_storable : (P (F := F) T X g₀).IsStorable where
  st q d c := match q with | 0 => half_storable d (T d) (X d) (g₀ d) (Fin.cast nCore_zero c)
  dn q d c := match q with | 0 => half_storable d (T d) (X d) (G (T d) (X d)) (Fin.cast nCore_zero c)
  go q d c i := match q with
    | 0 => (inferInstance : BI.Storable (upEmb : UEmb _ 𝕄) (part d (T d) (X d) (g₀ d) (Fin.cast nCore_zero c) (Fin.cast nSub_zero i)))
  td q d c i := match q with
    | 0 => (inferInstance : BI.Storable (upEmb : UEmb _ 𝕄) (part d (T d) (X d) (G (T d) (X d)) (Fin.cast nCore_zero c) (Fin.cast nSub_zero i)))

/-- The tile `(c, i)` by its coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tV (Memref.isWhole_whole _) iV (Memref.isWhole_whole _) oV (Memref.isWhole_whole _)
          sV (Memref.isWhole_whole _) rV (Memref.isWhole_whole _) cc0_scratch2 cc0_scratch3 cc0_scratch4 cc0_scratch5
            cc0_scratch6 cc0_scratch7 cc0_scratch8 cc0_scratch9 cc0_scoped0) ⟨⟩ c s := rfl

set_option maxRecDepth 16384 in
/-- Every tile meets its obligation to the launch. -/
theorem tileObl (hF : (K (F := F)).Facts) (hX : ∀ d j, (X d j).toNat < 1000000) :
    (K (F := F)).TileObl (D (F := F)) 𝒱 (P T X g₀) v₀ 0 := by
  intro d c i O W hO _ _
  simp only [show (P T X g₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (T d) (X d) (hX d) (g₀ d) O W hO (Fin.cast nCore_zero c) (Fin.cast nSub_zero i) rfl rfl

/-- A sum over the call's tiles of one core, over their sixteen numbers. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core deals its tiles their parts and collects them. -/
theorem vecSplit : (K (F := F)).VecSplit' (P T X g₀) 0 := by
  intro d c
  show half d (T d) (X d) (g₀ d) (Fin.cast nCore_zero c) ⊢ |={Set.univ}=> iprop(
      (bigSep Finset.univ fun i : Fin ((K (F := F)).nSub 0) => part d (T d) (X d) (g₀ d) (Fin.cast nCore_zero c) (Fin.cast nSub_zero i))
      ∗ ((bigSep Finset.univ fun i : Fin ((K (F := F)).nSub 0) => part d (T d) (X d) (G (T d) (X d)) (Fin.cast nCore_zero c) (Fin.cast nSub_zero i))
          -∗ half d (T d) (X d) (G (T d) (X d)) (Fin.cast nCore_zero c)))
  rw [bigSep_tiles (fun i => part d (T d) (X d) (g₀ d) (Fin.cast nCore_zero c) i),
    bigSep_tiles (fun i => part d (T d) (X d) (G (T d) (X d)) (Fin.cast nCore_zero c) i)]
  unfold half
  iintro H; imodintro
  isplitl [H]; · iexact H
  iintro H; iexact H

/-! ## The whole arrays and the tiles' parts -/

/-- An array held whole is its 32 read shares. -/
theorem deal {ℓ : Loc nD τ sig} (f : Buf (Elt F) ℓ) :
    (ℓ ↦{fullShare} f : sProp 𝕄) = bigSep Finset.univ fun c : Fin 2 => bigSep Finset.univ fun i : Fin 16 => ℓ ↦{shr c i} f := by
  refine (Transfers.pointsTo_deal (Finset.univ : Finset (Fin 2)) ⟨0, Finset.mem_univ _⟩ fullShare).trans (bigSep_congr fun c _ => ?_)
  exact Transfers.pointsTo_deal (Finset.univ : Finset (Fin 16)) ⟨0, Finset.mem_univ _⟩ _

/-- The tiles' rows are all the result's rows. -/
theorem tiles_cover : (Finset.univ : Finset (Fin 2 × Fin 16)).biUnion
    (fun p => rng (57344 * p.2.val + 28672 * p.1.val) (57344 * p.2.val + 28672 * p.1.val + 28672)) = Finset.univ := by
  ext j
  simp only [Finset.mem_biUnion, Finset.mem_univ, true_and, iff_true, mem_rng]
  have hj : (j 0).val < 917504 := (j 0).isLt
  refine ⟨(⟨(j 0).val / 28672 % 2, by omega⟩, ⟨(j 0).val / 57344, by omega⟩), ?_, ?_⟩
  · show 57344 * ((j 0).val / 57344) + 28672 * ((j 0).val / 28672 % 2) ≤ _; omega
  · show _ < 57344 * ((j 0).val / 57344) + 28672 * ((j 0).val / 28672 % 2) + 28672; omega

/-- The result held whole is the 32 tiles' rows. -/
theorem rows_tiles (d : Dev nD) (f : S917504x128.Idx → Elt F .f32) :
    (oLoc d ↦{fullShare} f : sProp 𝕄) = bigSep Finset.univ fun c : Fin 2 => bigSep Finset.univ fun i : Fin 16 =>
      rows d f (57344 * i.val + 28672 * c.val) (57344 * i.val + 28672 * c.val + 28672) := by
  rw [← bigSep_univ_prod (fun p : Fin 2 × Fin 16 => rows (F := F) d f (57344 * p.2.val + 28672 * p.1.val) (57344 * p.2.val + 28672 * p.1.val + 28672)),
    ← pointsTo_biUnion (ℓ := oLoc d) Finset.univ (fun p : Fin 2 × Fin 16 => rng (57344 * p.2.val + 28672 * p.1.val) (57344 * p.2.val + 28672 * p.1.val + 28672))
      ?_, tiles_cover]
  · rintro ⟨c, i⟩ - ⟨c', i'⟩ - hne
    rw [Finset.disjoint_left]; intro j h h'
    simp only [mem_rng] at h h'
    have := c.isLt; have := c'.isLt
    exact hne (Prod.ext (Fin.ext (show c.val = c'.val by omega)) (Fin.ext (show i.val = i'.val by omega)))

/-- The three arrays held whole are the two cores' halves. -/
theorem halves_eq (d : Dev nD) (T : S1000000x128.Idx → Elt F .f32) (X : S917504.Idx → BitVec 32) (f : S917504x128.Idx → Elt F .f32) :
    (bigSep Finset.univ fun c : Fin 2 => half d T X f c : sProp 𝕄)
      = iprop((iLoc d ↦{fullShare} X) ∗ (tLoc d ↦{fullShare} T) ∗ (oLoc d ↦{fullShare} f)) := by
  rw [deal (ℓ := iLoc d) X, deal (ℓ := tLoc d) T, rows_tiles]
  unfold half part
  simp only [bigSep_sep']

/-- What the call takes: the three arrays whole. -/
theorem st0_eq (d : Dev nD) : (bigSep Finset.univ fun c : Fin ((K (F := F)).nCore 0) => (P T X g₀).st 0 d c)
    = iprop((iLoc d ↦{fullShare} X d) ∗ (tLoc d ↦{fullShare} T d) ∗ (oLoc d ↦{fullShare} g₀ d)) :=
  (bigSep_congr fun _ _ => rfl).trans (halves_eq d (T d) (X d) (g₀ d))
/-- What it gives back: the same, the result looked up. -/
theorem dn0_eq (d : Dev nD) : (bigSep Finset.univ fun c : Fin ((K (F := F)).nCore 0) => (P T X g₀).dn 0 d c)
    = iprop((iLoc d ↦{fullShare} X d) ∗ (tLoc d ↦{fullShare} T d) ∗ (oLoc d ↦{fullShare} G (T d) (X d))) :=
  (bigSep_congr fun _ _ => rfl).trans (halves_eq d (T d) (X d) (G (T d) (X d)))

/-! ## The launch's ghost state -/

/-- The handshakes' rounds and no transfer counters. -/
def u₀ : UU := (initOf (K (F := F)).hsCells (K (F := F)).hsToks, 1)

/-- Nothing, any number of times. -/
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P T X g₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P T X g₀).x q thr) = bigSep Finset.univ fun _ => iprop(emp) from
    bigSep_congr fun _ _ => bigSep_univ_of_subsingleton (0 : Fin 1), bigSep_nothing]
  iempintro

end Launch

end Cert.Proof.Lookup

end
-- ==== Proof.Main.lean ====
/-
  The whole program: the TensorCore's operations before the call, the call, the operations after it, and what every run
  leaves in memory.
-/
module

public import proofs.«01_k».proof.Proof.Launch

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr seq after wp_seq tcRefs devRef_mem_tcRefs devRef_ne_of_ne)

variable {F : FTy → Type} [FloatOps F]

local notation "𝕄" => MT nD τ sig (HIx 1) (Elt F) ℕ UU ℕ

/-! ## The TensorCore's operations around the call -/

/-- The padding and flattening of the row numbers, and the padding of the table. -/
def pre : List (HloOp τ sig (Elt F)) :=
  [StableHlo.nullary main_c (constantI S_ 32 0#32),
   StableHlo.TRef.unary (.of main_arg0 : StableHlo.TRef sig ⟨S16384x50, .i32⟩) main_call0.v0 (extractStridedSlice S1x50 ![0, 0] · slices_S16384x50_S1x50_0_0),
   StableHlo.TRef.unary main_call0.v0 main_call0.v1 (broadcastInDim S1x0x50 ![0, 2] bcast_S1x50_S1x0x50_0_2),
   StableHlo.TRef.reshape main_call0.v1 main_call0.v2 (rfl : (.i32 : EltTy) = .i32) shapeCasts_S1x0x50_S0x50,
   StableHlo.TRef.unary (.of main_arg0 : StableHlo.TRef sig ⟨S16384x50, .i32⟩) main_call0.v3 (extractStridedSlice S1x50 ![16383, 0] · slices_S16384x50_S1x50_16383_0),
   StableHlo.TRef.unary main_call0.v3 main_call0.v4 (broadcastInDim S1x0x50 ![0, 2] bcast_S1x50_S1x0x50_0_2),
   StableHlo.TRef.reshape main_call0.v4 main_call0.v5 (rfl : (.i32 : EltTy) = .i32) shapeCasts_S1x0x50_S0x50,
   StableHlo.TRef.nary (Ts := ![⟨S0x50, .i32⟩, ⟨S16384x50, .i32⟩, ⟨S0x50, .i32⟩]) (Fin.cons main_call0.v2 (Fin.cons (.of main_arg0 : StableHlo.TRef sig ⟨S16384x50, .i32⟩) (Fin.cons main_call0.v5 (fun k => k.elim0)))) main_call0.v6 (fun u => (concatenate S16384x50 0 [⟨S0x50, (u 0 : (⟨S0x50, .i32⟩ : BufTy).Contents (Elt F))⟩, ⟨S16384x50, (u 1 : (⟨S16384x50, .i32⟩ : BufTy).Contents (Elt F))⟩, ⟨S0x50, (u 2 : (⟨S0x50, .i32⟩ : BufTy).Contents (Elt F))⟩] concatenates_S0x50_S16384x50_S0x50_S16384x50_d0 : (⟨S16384x50, .i32⟩ : BufTy).Contents (Elt F))),
   StableHlo.TRef.unary main_call0.v6 main_call0.v7 (extractStridedSlice S16384x1 ![0, 0] · slices_S16384x50_S16384x1_0_0),
   StableHlo.TRef.unary main_call0.v7 main_call0.v8 (broadcastInDim S16384x1x0 ![0, 1] bcast_S16384x1_S16384x1x0_0_1),
   StableHlo.TRef.reshape main_call0.v8 main_call0.v9 (rfl : (.i32 : EltTy) = .i32) shapeCasts_S16384x1x0_S16384x0,
   StableHlo.TRef.unary main_call0.v6 main_call0.v10 (extractStridedSlice S16384x1 ![0, 49] · slices_S16384x50_S16384x1_0_49),
   StableHlo.TRef.unary main_call0.v10 main_call0.v11 (broadcastInDim S16384x1x6 ![0, 1] bcast_S16384x1_S16384x1x6_0_1),
   StableHlo.TRef.reshape main_call0.v11 main_call0.v12 (rfl : (.i32 : EltTy) = .i32) shapeCasts_S16384x1x6_S16384x6,
   StableHlo.TRef.nary (Ts := ![⟨S16384x0, .i32⟩, ⟨S16384x50, .i32⟩, ⟨S16384x6, .i32⟩]) (Fin.cons main_call0.v9 (Fin.cons main_call0.v6 (Fin.cons main_call0.v12 (fun k => k.elim0)))) main_call0.v13 (fun u => (concatenate S16384x56 1 [⟨S16384x0, (u 0 : (⟨S16384x0, .i32⟩ : BufTy).Contents (Elt F))⟩, ⟨S16384x50, (u 1 : (⟨S16384x50, .i32⟩ : BufTy).Contents (Elt F))⟩, ⟨S16384x6, (u 2 : (⟨S16384x6, .i32⟩ : BufTy).Contents (Elt F))⟩] concatenates_S16384x0_S16384x50_S16384x6_S16384x56_d1 : (⟨S16384x56, .i32⟩ : BufTy).Contents (Elt F))),
   StableHlo.reshape main_v0 main_v1 (rfl : (.i32 : EltTy) = .i32) shapeCasts_S16384x56_S917504,
   StableHlo.nullary main_c_0 (constantI S_ 32 0#32),
   StableHlo.TRef.unary (.of main_c_0 : StableHlo.TRef sig ⟨S_, .i32⟩) main_call1.v0 (sitofp .f32),
   StableHlo.TRef.binary (.of main_arg1 : StableHlo.TRef sig ⟨S1000000x64, .f32⟩) main_call1.v0 main_call1.v1 (fun x v => pad S1000000x128 ![0, 0] ![0, 64] ![0, 0] x v pads_S1000000x64_S1000000x128_000_0640 h_S_)]

/-- The unflattening of the looked-up rows and the cut of their padding. -/
def post : List (HloOp τ sig (Elt F)) :=
  [StableHlo.reshape main_v3 main_v4 (rfl : (.f32 : EltTy) = .f32) shapeCasts_S917504x128_S16384x56x128,
   StableHlo.unary main_v4 main_v5 ((extractStridedSlice S16384x50x64 ![0, 0, 0] · slices_S16384x56x128_S16384x50x64_0_0_0) : (⟨S16384x56x128, .f32⟩ : BufTy).Contents (Elt F) → (⟨S16384x50x64, .f32⟩ : BufTy).Contents (Elt F))]

/-- The program: the operations before the call, the call, the operations after it. -/
theorem main_eq (d : Dev nD) :
    main (F := F) d = seq pre >>= fun _ => ((sc (F := F)).run d 0 >>= fun _ => seq post >>= fun _ => pure ⟨⟩) := rfl

theorem pre_sub : ∀ op ∈ pre (F := F), op.bufs ⊆ tcRefs τ sig := by
  have h : (pre (F := F)).Forall fun op => op.bufs ⊆ tcRefs τ sig := by
    unfold pre
    simp only [List.forall_cons, List.Forall, StableHlo.nullary_bufs_sub, StableHlo.unary_bufs_sub, StableHlo.binary_bufs_sub,
      StableHlo.reshape_bufs_sub, StableHlo.nary_bufs_sub, and_self]
  exact List.forall_iff_forall_mem.mp h
theorem post_sub : ∀ op ∈ post (F := F), op.bufs ⊆ tcRefs τ sig := by
  have h : (post (F := F)).Forall fun op => op.bufs ⊆ tcRefs τ sig := by
    unfold post
    simp only [List.forall_cons, List.Forall, StableHlo.unary_bufs_sub, StableHlo.reshape_bufs_sub, and_self]
  exact List.forall_iff_forall_mem.mp h
theorem pre_fresh : ∀ op ∈ pre (F := F), op.fresh = ∅ :=
  List.forall_iff_forall_mem.mp (StableHlo.forall_fresh_of_map rfl)
theorem post_fresh : ∀ op ∈ post (F := F), op.fresh = ∅ :=
  List.forall_iff_forall_mem.mp (StableHlo.forall_fresh_of_map rfl)

/-- The references the operations before the call write, in order. -/
def preW : List (Ref sig .tc) :=
  [main_c, main_call0_v0, main_call0_v1, main_call0_v2, main_call0_v3, main_call0_v4, main_call0_v5, main_call0_v6, main_call0_v7,
   main_call0_v8, main_call0_v9, main_call0_v10, main_call0_v11, main_call0_v12, main_v0, main_v1, main_c_0, main_call1_v0, main_v2]

/-- What they do not write, they leave. -/
theorem pre_keep (V : Valuation τ sig (Elt F)) (r : Ref sig .tc) (hr : r ∉ preW) : after pre V (Proc.devRef .tc r) = V (Proc.devRef .tc r) :=
  StableHlo.after_of_writes_sub (W := preW) pre V (StableHlo.forall_writes_sub_of_map rfl) hr
theorem post_keep (V : Valuation τ sig (Elt F)) (r : Ref sig .tc) (hr : r ∉ [main_v4, main_v5]) : after post V (Proc.devRef .tc r) = V (Proc.devRef .tc r) :=
  StableHlo.after_of_writes_sub (W := [main_v4, main_v5]) post V (StableHlo.forall_writes_sub_of_map rfl) hr

/-! ## The arrays through the program -/

section Main

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev i' : DevRef τ sig := Proc.devRef .tc (main_v1 : Ref sig .tc)
abbrev t' : DevRef τ sig := Proc.devRef .tc (main_v2 : Ref sig .tc)
abbrev o' : DevRef τ sig := Proc.devRef .tc (main_v3 : Ref sig .tc)
abbrev r' : DevRef τ sig := Proc.devRef .tc (main_v5 : Ref sig .tc)

/-- The arrays at the launch, before the call, after it, and at the end. -/
def V0 (d : Dev nD) : Valuation τ sig (Elt F) := fun b => m (d, b)
def V1 (d : Dev nD) : Valuation τ sig (Elt F) := after pre (V0 m d)
def T1 (d : Dev nD) : S1000000x128.Idx → Elt F .f32 := V1 m d t'
def X1 (d : Dev nD) : S917504.Idx → BitVec 32 := V1 m d i'
def O1 (d : Dev nD) : S917504x128.Idx → Elt F .f32 := V1 m d o'
def V2 (d : Dev nD) : Valuation τ sig (Elt F) := Function.update (V1 m d) o' (G (T1 m d) (X1 m d))
def V3 (d : Dev nD) : Valuation τ sig (Elt F) := after post (V2 m d)

theorem V3_a0 (d : Dev nD) : V3 m d a0' = m ((SparseCore.T d).loc main_arg0) :=
  (post_keep _ main_arg0 (by decide)).trans ((Function.update_of_ne (devRef_ne_of_ne (by decide)) _ _).trans (pre_keep _ main_arg0 (by decide)))
theorem V3_a1 (d : Dev nD) : V3 m d a1' = m ((SparseCore.T d).loc main_arg1) :=
  (post_keep _ main_arg1 (by decide)).trans ((Function.update_of_ne (devRef_ne_of_ne (by decide)) _ _).trans (pre_keep _ main_arg1 (by decide)))

/-- The three arrays the call takes; the two arguments and the result. -/
abbrev callS : Finset (DevRef τ sig) := {i', t', o'}
abbrev endS : Finset (DevRef τ sig) := {a0', a1', r'}

theorem callS_sub : callS ⊆ tcRefs τ sig :=
  Finset.insert_subset (devRef_mem_tcRefs _) (Finset.insert_subset (devRef_mem_tcRefs _) (Finset.singleton_subset_iff.mpr (devRef_mem_tcRefs _)))
theorem endS_sub : endS ⊆ tcRefs τ sig :=
  Finset.insert_subset (devRef_mem_tcRefs _) (Finset.insert_subset (devRef_mem_tcRefs _) (Finset.singleton_subset_iff.mpr (devRef_mem_tcRefs _)))

theorem held_call (d : Dev nD) (W : Valuation τ sig (Elt F)) :
    (held (SparseCore.T d) callS W : sProp 𝕄) = iprop((iLoc d ↦{fullShare} W i') ∗ (tLoc d ↦{fullShare} W t') ∗ (oLoc d ↦{fullShare} W o')) := by
  unfold held callS
  rw [SparseCore.bigSep_insert' (by decide), SparseCore.bigSep_insert' (by decide), bigSep_singleton]
theorem held_end (d : Dev nD) (W : Valuation τ sig (Elt F)) :
    (held (SparseCore.T d) endS W : sProp 𝕄)
      = iprop(((SparseCore.T d).loc main_arg0 ↦{fullShare} W a0') ∗ ((SparseCore.T d).loc main_arg1 ↦{fullShare} W a1')
          ∗ ((SparseCore.T d).loc main_v5 ↦{fullShare} W r')) := by
  unfold held endS
  rw [SparseCore.bigSep_insert' (by decide), SparseCore.bigSep_insert' (by decide), bigSep_singleton]

/-- The TensorCore's arrays at the launch are all its references. -/
theorem unscoped_held (d : Dev nD) : (unscopedBufs d (fun b => m ((SparseCore.T d).loc b)) : sProp 𝕄) = held (SparseCore.T d) (tcRefs τ sig) (V0 m d) := by
  unfold unscopedBufs held tcRefs
  rw [BI.bigSep_map, show (Finset.univ.filter fun b : Ref sig .tc => ¬ b.isScoped) = Finset.univ by decide]
  rfl

/-- All the arrays before the call: the three it takes and the rest. -/
theorem held_V1 (d : Dev nD) :
    (held (SparseCore.T d) (tcRefs τ sig) (V1 m d) : sProp 𝕄)
      = iprop(((iLoc d ↦{fullShare} X1 m d) ∗ (tLoc d ↦{fullShare} T1 m d) ∗ (oLoc d ↦{fullShare} O1 m d))
          ∗ held (SparseCore.T d) (tcRefs τ sig \ callS) (V1 m d)) := by
  rw [held_sub_split _ callS_sub, held_call]; rfl
/-- And after it. -/
theorem held_V2 (d : Dev nD) :
    (held (SparseCore.T d) (tcRefs τ sig) (V2 m d) : sProp 𝕄)
      = iprop(((iLoc d ↦{fullShare} X1 m d) ∗ (tLoc d ↦{fullShare} T1 m d) ∗ (oLoc d ↦{fullShare} G (T1 m d) (X1 m d)))
          ∗ held (SparseCore.T d) (tcRefs τ sig \ callS) (V1 m d)) := by
  have hi : (iLoc d ↦{fullShare} V2 m d i' : sProp 𝕄) = iLoc d ↦{fullShare} X1 m d :=
    congrArg (fun f : Buf (Elt F) (iLoc d) => (iLoc d ↦{fullShare} f : sProp 𝕄)) (Function.update_of_ne (devRef_ne_of_ne (by decide)) _ _)
  have ht : (tLoc d ↦{fullShare} V2 m d t' : sProp 𝕄) = tLoc d ↦{fullShare} T1 m d :=
    congrArg (fun f : Buf (Elt F) (tLoc d) => (tLoc d ↦{fullShare} f : sProp 𝕄)) (Function.update_of_ne (devRef_ne_of_ne (by decide)) _ _)
  have ho : (oLoc d ↦{fullShare} V2 m d o' : sProp 𝕄) = oLoc d ↦{fullShare} G (T1 m d) (X1 m d) :=
    congrArg (fun f : Buf (Elt F) (oLoc d) => (oLoc d ↦{fullShare} f : sProp 𝕄)) (Function.update_self _ _ _)
  have hr : (held (SparseCore.T d) (tcRefs τ sig \ callS) (V2 m d) : sProp 𝕄) = held (SparseCore.T d) (tcRefs τ sig \ callS) (V1 m d) := by
    refine held_congr _ fun b hb => Function.update_of_ne (fun e => ?_) _ _
    subst e
    exact (Finset.mem_sdiff.mp hb).2 (Finset.mem_insert_of_mem (Finset.mem_insert_of_mem (Finset.mem_singleton_self _)))
  rw [held_sub_split _ callS_sub, held_call, hr, hi, ht, ho]

/-- What the program leaves the claims: the arguments as they were, the result. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1)) ∗ ((SparseCore.T d).loc main_v5 ↦{fullShare} V3 m d r'))

theorem held_V3 (d : Dev nD) : (held (SparseCore.T d) (tcRefs τ sig) (V3 m d) : sProp 𝕄) ⊢ FIN m d := by
  rw [held_sub_split _ endS_sub, held_end, V3_a0, V3_a1]
  unfold FIN
  iintro ⟨H, -⟩; iexact H

/-- The program on device `d`'s TensorCore. -/
theorem hmain (κ : GSem nD τ sig → ℕ) (d : Dev nD) :
    iprop((K (F := F)).ctx EH (P (T1 m) (X1 m) (O1 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) _ pre pre_sub pre_fresh (V0 m d)) $$ [Hb Hheld]
  · isplitl [Hb] <;> iassumption
  iintro ⟨Hb, Hheld⟩
  ihave Hh := (show (held d.tc (tcRefs τ sig) (after pre (V0 m d)) : sProp 𝕄) ⊢ _ from Entails.of_eq (held_V1 m d)) $$ Hheld
  icases Hh with ⟨Hcall, Hrest⟩
  rw [wp_bind]
  iapply ((K (F := F)).wp_run (D (F := F)) 𝒱 (EH := EH) (P := P (T1 m) (X1 m) (O1 m)) κ d 0) $$ [Hst Hcall Hrest Hb Hts]
  isplitr; · iexact Hctx
  isplitl [Hst]; · iexact Hst
  isplitl [Hcall]
  · rw [st0_eq]; iexact Hcall
  iintro ⟨Hst, Hdn⟩
  ihave Hcall := (Entails.of_eq (dn0_eq (T1 m) (X1 m) (O1 m) d)) $$ Hdn
  iapply (wp_seq 𝒱 none Set.univ d (tcRefs τ sig) _ post post_sub post_fresh (V2 m d)) $$ [Hb Hcall Hrest]
  · isplitl [Hb]; · iexact Hb
    iapply (show _ ⊢ (held d.tc (tcRefs τ sig) (V2 m d) : sProp 𝕄) from Entails.of_eq (held_V2 m d).symm)
    isplitl [Hcall] <;> iassumption
  iintro ⟨Hb, Hheld⟩
  rw [wp_pure]; imodintro
  isplitl [Hst]; · iexact Hst
  isplitl [Hheld]
  · iapply (show (held d.tc (tcRefs τ sig) (after post (V2 m d)) : sProp 𝕄) ⊢ _ from held_V3 m d); iexact Hheld
  isplitl [Hb] <;> iassumption

/-- What the claims read of device `d`'s final state. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_v5) = V3 m d r'

set_option maxRecDepth 16384 in
theorem hfin (d : Dev nD) (s' : Phys nD τ sig (Elt F)) : iprop(FIN m d ∗ SI s') ⊢ (⌜fq m d s'⌝ : sProp 𝕄) := by
  unfold FIN
  iintro ⟨⟨H0, H1, H5⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare)
    (f := m ((SparseCore.T d).loc main_arg1)))) $$ [HSI H1]
  · isplitl [HSI] <;> iassumption
  icases H with ⟨%h1, HSI, -⟩
  ihave H := (SI_pointsTo_agree (st := s') (ℓ := (SparseCore.T d).loc main_v5) (I := Finset.univ) (q := fullShare) (f := V3 m d r')) $$ [HSI H5]
  · isplitl [HSI] <;> iassumption
  icases H with %h5
  ipureintro; exact ⟨funext fun i => h0 i (Finset.mem_univ i), funext fun i => h1 i (Finset.mem_univ i), funext fun i => h5 i (Finset.mem_univ i)⟩

/-- The final memory: the arguments unchanged, the result, the counters at zero. -/
def QC : PUnit × MemSt nD τ sig (Elt F) → Prop := fun r =>
  (∀ c : Dev nD, r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_v5) = V3 m c r') ∧ r.2.sem = fun _ => 0

/-- Every run of the program, the padded row numbers below the table's length, ends so. -/
theorem run_main [∀ e, Nonempty (Elt F e)] (hX : ∀ d j, (X1 m d j).toNat < 1000000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (T1 m) (X1 m) (O1 m)) (A := ∅) facts v₀
    (fun q hq => match q with | 0 => nomatch hq)
    (fun q _ => match q with | 0 => tileObl (T1 m) (X1 m) (O1 m) facts hX)
    (fun q _ => match q with | 0 => SparseCore.Cfg.VecSplit.of_plain (vecSplit (T1 m) (X1 m) (O1 m)))
    m ρ main (fun _ => iprop(emp)) (FIN m) (u₀ (F := F)) (sep_elim_left.trans (hu₀ (T1 m) (X1 m) (O1 m))) (hmain m ρ) (fq m) (hfin m) (QC m)
    (fun _ h hz => ⟨h, hz⟩)

end Main

end Cert.Proof.Lookup

end
-- ==== Proof.Host.lean ====
/-
  What the TensorCore's operations leave: the row numbers and the table the call takes, and the result, as values of the
  program's two arguments.
-/
module

public import proofs.«01_k».proof.Proof.Main
public import Idealize.ShloMosaic.Lib.StableHlo.Run

@[expose] public section

noncomputable section

namespace Cert.Proof.Lookup

open Cert.KernelIdeal Cert.KernelIdeal.Gen

open Idealize.ShloMosaic
open Idealize.ShloMosaic.StableHlo (after)

variable {F : FTy → Type} [FloatOps F]

/-! ## The operations as functions -/

/-- The row numbers between an empty block of rows above and one below. -/
def tall (x : S16384x50.Idx → BitVec 32) : S16384x50.Idx → BitVec 32 :=
  concatenate S16384x50 0
    [⟨S0x50, shapeCast S0x50 (broadcastInDim S1x0x50 ![0, 2] bcast_S1x50_S1x0x50_0_2 (extractStridedSlice S1x50 ![0, 0] x slices_S16384x50_S1x50_0_0)) shapeCasts_S1x0x50_S0x50⟩,
     ⟨S16384x50, x⟩,
     ⟨S0x50, shapeCast S0x50 (broadcastInDim S1x0x50 ![0, 2] bcast_S1x50_S1x0x50_0_2 (extractStridedSlice S1x50 ![16383, 0] x slices_S16384x50_S1x50_16383_0)) shapeCasts_S1x0x50_S0x50⟩]
    concatenates_S0x50_S16384x50_S0x50_S16384x50_d0

/-- An empty block of columns, the row numbers, and six copies of their last column. -/
def wide (x : S16384x50.Idx → BitVec 32) : S16384x56.Idx → BitVec 32 :=
  concatenate S16384x56 1
    [⟨S16384x0, shapeCast S16384x0 (broadcastInDim S16384x1x0 ![0, 1] bcast_S16384x1_S16384x1x0_0_1 (extractStridedSlice S16384x1 ![0, 0] x slices_S16384x50_S16384x1_0_0)) shapeCasts_S16384x1x0_S16384x0⟩,
     ⟨S16384x50, x⟩,
     ⟨S16384x6, shapeCast S16384x6 (broadcastInDim S16384x1x6 ![0, 1] bcast_S16384x1_S16384x1x6_0_1 (extractStridedSlice S16384x1 ![0, 49] x slices_S16384x50_S16384x1_0_49)) shapeCasts_S16384x1x6_S16384x6⟩]
    concatenates_S16384x0_S16384x50_S16384x6_S16384x56_d1

/-- The table with 64 columns of padding. -/
def padT (t : S1000000x64.Idx → Elt F .f32) : S1000000x128.Idx → Elt F .f32 :=
  pad S1000000x128 ![0, 0] ![0, 64] ![0, 0] t (sitofp .f32 (constantI S_ 32 0#32)) pads_S1000000x64_S1000000x128_000_0640 h_S_

/-! ## The operations before the call, in stages -/

/-- The two empty blocks of rows. -/
def pre1 : List (HloOp τ sig (Elt F)) :=
  [StableHlo.nullary main_c (constantI S_ 32 0#32),
   StableHlo.TRef.unary (.of main_arg0 : StableHlo.TRef sig ⟨S16384x50, .i32⟩) main_call0.v0 (extractStridedSlice S1x50 ![0, 0] · slices_S16384x50_S1x50_0_0),
   StableHlo.TRef.unary main_call0.v0 main_call0.v1 (broadcastInDim S1x0x50 ![0, 2] bcast_S1x50_S1x0x50_0_2),
   StableHlo.TRef.reshape main_call0.v1 main_call0.v2 (rfl : (.i32 : EltTy) = .i32) shapeCasts_S1x0x50_S0x50,
   StableHlo.TRef.unary (.of main_arg0 : StableHlo.TRef sig ⟨S16384x50, .i32⟩) main_call0.v3 (extractStridedSlice S1x50 ![16383, 0] · slices_S16384x50_S1x50_16383_0),
   StableHlo.TRef.unary main_call0.v3 main_call0.v4 (broadcastInDim S1x0x50 ![0, 2] bcast_S1x50_S1x0x50_0_2),
   StableHlo.TRef.reshape main_call0.v4 main_call0.v5 (rfl : (.i32 : EltTy) = .i32) shapeCasts_S1x0x50_S0x50]

/-- The row numbers between them. -/
def catRows : HloOp τ sig (Elt F) :=
  StableHlo.TRef.nary (Ts := ![⟨S0x50, .i32⟩, ⟨S16384x50, .i32⟩, ⟨S0x50, .i32⟩]) (Fin.cons main_call0.v2 (Fin.cons (.of main_arg0 : StableHlo.TRef sig ⟨S16384x50, .i32⟩) (Fin.cons main_call0.v5 (fun k => k.elim0)))) main_call0.v6 (fun u => (concatenate S16384x50 0 [⟨S0x50, (u 0 : (⟨S0x50, .i32⟩ : BufTy).Contents (Elt F))⟩, ⟨S16384x50, (u 1 : (⟨S16384x50, .i32⟩ : BufTy).Contents (Elt F))⟩, ⟨S0x50, (u 2 : (⟨S0x50, .i32⟩ : BufTy).Contents (Elt F))⟩] concatenates_S0x50_S16384x50_S0x50_S16384x50_d0 : (⟨S16384x50, .i32⟩ : BufTy).Contents (Elt F)))

/-- The empty block of columns and the six copies of the last column. -/
def pre2 : List (HloOp τ sig (Elt F)) :=
  [StableHlo.TRef.unary main_call0.v6 main_call0.v7 (extractStridedSlice S16384x1 ![0, 0] · slices_S16384x50_S16384x1_0_0),
   StableHlo.TRef.unary main_call0.v7 main_call0.v8 (broadcastInDim S16384x1x0 ![0, 1] bcast_S16384x1_S16384x1x0_0_1),
   StableHlo.TRef.reshape main_call0.v8 main_call0.v9 (rfl : (.i32 : EltTy) = .i32) shapeCasts_S16384x1x0_S16384x0,
   StableHlo.TRef.unary main_call0.v6 main_call0.v10 (extractStridedSlice S16384x1 ![0, 49] · slices_S16384x50_S16384x1_0_49),
   StableHlo.TRef.unary main_call0.v10 main_call0.v11 (broadcastInDim S16384x1x6 ![0, 1] bcast_S16384x1_S16384x1x6_0_1),
   StableHlo.TRef.reshape main_call0.v11 main_call0.v12 (rfl : (.i32 : EltTy) = .i32) shapeCasts_S16384x1x6_S16384x6]

/-- The row numbers between those. -/
def catCols : HloOp τ sig (Elt F) :=
  StableHlo.TRef.nary (Ts := ![⟨S16384x0, .i32⟩, ⟨S16384x50, .i32⟩, ⟨S16384x6, .i32⟩]) (Fin.cons main_call0.v9 (Fin.cons main_call0.v6 (Fin.cons main_call0.v12 (fun k => k.elim0)))) main_call0.v13 (fun u => (concatenate S16384x56 1 [⟨S16384x0, (u 0 : (⟨S16384x0, .i32⟩ : BufTy).Contents (Elt F))⟩, ⟨S16384x50, (u 1 : (⟨S16384x50, .i32⟩ : BufTy).Contents (Elt F))⟩, ⟨S16384x6, (u 2 : (⟨S16384x6, .i32⟩ : BufTy).Contents (Elt F))⟩] concatenates_S16384x0_S16384x50_S16384x6_S16384x56_d1 : (⟨S16384x56, .i32⟩ : BufTy).Contents (Elt F)))

/-- The flattening, and the padding of the table. -/
def pre3 : List (HloOp τ sig (Elt F)) :=
  [StableHlo.reshape main_v0 main_v1 (rfl : (.i32 : EltTy) = .i32) shapeCasts_S16384x56_S917504,
   StableHlo.nullary main_c_0 (constantI S_ 32 0#32),
   StableHlo.TRef.unary (.of main_c_0 : StableHlo.TRef sig ⟨S_, .i32⟩) main_call1.v0 (sitofp .f32),
   StableHlo.TRef.binary (.of main_arg1 : StableHlo.TRef sig ⟨S1000000x64, .f32⟩) main_call1.v0 main_call1.v1 (fun x v => pad S1000000x128 ![0, 0] ![0, 64] ![0, 0] x v pads_S1000000x64_S1000000x128_000_0640 h_S_)]

theorem pre_stages : pre (F := F) = pre1 ++ catRows :: (pre2 ++ catCols :: pre3) := rfl

variable (V : Valuation τ sig (Elt F))

theorem after_pre (V : Valuation τ sig (Elt F)) : after pre V = after pre3 (catCols.result (after pre2 (catRows.result (after pre1 V)))) := by
  rw [pre_stages]; rfl

theorem pre1_v2 : after pre1 V (Proc.devRef .tc main_call0_v2) = shapeCast S0x50 (broadcastInDim S1x0x50 ![0, 2] bcast_S1x50_S1x0x50_0_2 (extractStridedSlice S1x50 ![0, 0] (V a0') slices_S16384x50_S1x50_0_0)) shapeCasts_S1x0x50_S0x50 := by
  unfold pre1; after_results; rfl
theorem pre1_a0 : after pre1 V a0' = V a0' := by
  unfold pre1; after_results
theorem pre1_v5 : after pre1 V (Proc.devRef .tc main_call0_v5) = shapeCast S0x50 (broadcastInDim S1x0x50 ![0, 2] bcast_S1x50_S1x0x50_0_2 (extractStridedSlice S1x50 ![16383, 0] (V a0') slices_S16384x50_S1x50_16383_0)) shapeCasts_S1x0x50_S0x50 := by
  unfold pre1; after_results; rfl

theorem catRows_v6 : catRows.result V (Proc.devRef .tc main_call0_v6) =
    concatenate S16384x50 0
      [⟨S0x50, V (Proc.devRef .tc main_call0_v2)⟩, ⟨S16384x50, V a0'⟩, ⟨S0x50, V (Proc.devRef .tc main_call0_v5)⟩]
      concatenates_S0x50_S16384x50_S0x50_S16384x50_d0 := by
  unfold catRows; after_results; rfl

theorem pre2_v9 : after pre2 V (Proc.devRef .tc main_call0_v9) = shapeCast S16384x0 (broadcastInDim S16384x1x0 ![0, 1] bcast_S16384x1_S16384x1x0_0_1 (extractStridedSlice S16384x1 ![0, 0] (V (Proc.devRef .tc main_call0_v6)) slices_S16384x50_S16384x1_0_0)) shapeCasts_S16384x1x0_S16384x0 := by
  unfold pre2; after_results; rfl
theorem pre2_v6 : after pre2 V (Proc.devRef .tc main_call0_v6) = V (Proc.devRef .tc main_call0_v6) := by
  unfold pre2; after_results
theorem pre2_v12 : after pre2 V (Proc.devRef .tc main_call0_v12) = shapeCast S16384x6 (broadcastInDim S16384x1x6 ![0, 1] bcast_S16384x1_S16384x1x6_0_1 (extractStridedSlice S16384x1 ![0, 49] (V (Proc.devRef .tc main_call0_v6)) slices_S16384x50_S16384x1_0_49)) shapeCasts_S16384x1x6_S16384x6 := by
  unfold pre2; after_results; rfl

theorem catCols_v0 : catCols.result V (Proc.devRef .tc main_v0) =
    concatenate S16384x56 1
      [⟨S16384x0, V (Proc.devRef .tc main_call0_v9)⟩, ⟨S16384x50, V (Proc.devRef .tc main_call0_v6)⟩, ⟨S16384x6, V (Proc.devRef .tc main_call0_v12)⟩]
      concatenates_S16384x0_S16384x50_S16384x6_S16384x56_d1 := by
  unfold catCols; after_results; rfl

theorem pre3_i : after pre3 V i' = shapeCast S917504 (V (Proc.devRef .tc main_v0)) shapeCasts_S16384x56_S917504 := by
  unfold pre3; after_results; rfl

/-- The row numbers the call takes: the program's, padded and flattened. -/
theorem after_pre_i : after pre V i' = shapeCast S917504 (wide (tall (V a0'))) shapeCasts_S16384x56_S917504 := by
  rw [after_pre, pre3_i, catCols_v0, pre2_v9, pre2_v6, pre2_v12, catRows_v6, pre1_v2, pre1_a0, pre1_v5]; rfl

/-- The table the call takes: the program's, padded. -/
theorem after_pre_t : after pre V t' = padT (V a1') := by
  unfold pre; after_results; rfl

/-- The result: the looked-up rows, unflattened and cut to the row numbers' 50 columns and the table's 64. -/
theorem after_post_r : after post V r' = extractStridedSlice S16384x50x64 ![0, 0, 0] (shapeCast S16384x56x128 (V o') shapeCasts_S917504x128_S16384x56x128) slices_S16384x56x128_S16384x50x64_0_0_0 := by
  unfold post; after_results; rfl

end Cert.Proof.Lookup

end
-- ==== Proof.Values.lean ====
/-
  The kernel's result entry by entry: at `(b, h, c)` the table's entry in column `c` of the row that row number `(b, h)` names.
-/
module

public import proofs.«01_k».proof.Proof.Host
public import Idealize.ShloMosaic.Lib.Pipeline.Value
public import Idealize.ShloMosaic.Lib.KernelVsHost

@[expose] public section

noncomputable section

namespace Cert.Proof.Lookup

open Cert.KernelIdeal Cert.KernelIdeal.Gen

open Idealize.ShloMosaic
open Idealize.ShloMosaic.StableHlo (after)

variable {F : FTy → Type} [FloatOps F]

/-- The lookup: entry `(b, h, c)` is the table's in column `c` of the row that row number `(b, h)` names. -/
def look (t : S1000000x64.Idx → Elt F .f32) (x : S16384x50.Idx → BitVec 32) : S16384x50x64.Idx → Elt F .f32 :=
  fun i => t (ix2 (rowNo (x (ix2 (i 0 : Fin 16384) (i 1 : Fin 50)))) (i 2 : Fin 64))

/-! ## The padded row numbers -/

/-- Empty blocks add nothing. -/
theorem tall_eq (x : S16384x50.Idx → BitVec 32) : tall x = x := by
  funext j
  unfold tall
  refine concatenate_apply_piece (0 : Fin 2) _ _ j 1 ?_ S16384x50 x ?_ rfl 0 ?_ j (fun _ _ => rfl) (Nat.zero_add _)
  · exact (by decide : 1 < 3)
  · rfl
  · rfl

/-- The last column laid six times. -/
theorem lastCol_apply (x : S16384x50.Idx → BitVec 32) (b : Fin 16384) (k : Fin 6) :
    shapeCast S16384x6 (broadcastInDim S16384x1x6 ![0, 1] bcast_S16384x1_S16384x1x6_0_1 (extractStridedSlice S16384x1 ![0, 49] x slices_S16384x50_S16384x1_0_49)) shapeCasts_S16384x1x6_S16384x6 (ix2 b k)
      = x (ix2 b (49 : Fin 50)) := by
  unfold shapeCast
  rw [show Shape.reshapeEquiv shapeCasts_S16384x1x6_S16384x6 (ix2 b k) = (ix3 b (0 : Fin 1) k : S16384x1x6.Idx) from
    Shape.reshapeEquiv_eq_of_rowMajor _ (by
      rw [Shape.rowMajor_val_three, Shape.rowMajor_val_two]
      show (b.val * 1 + 0) * 6 + k.val = b.val * 6 + k.val
      omega)]
  unfold broadcastInDim extractStridedSlice
  refine congrArg x (funext fun a => Fin.ext ?_)
  match a with
  | ⟨0, _⟩ => show 0 + b.val = b.val; omega
  | ⟨1, _⟩ => rfl

/-- The padded row numbers: the first 50 columns are the row numbers, the rest copies of the last of them. -/
theorem wide_apply (x : S16384x50.Idx → BitVec 32) (b : Fin 16384) (h : Fin 56) :
    wide x (ix2 b h) = x (ix2 b (⟨min h.val 49, by omega⟩ : Fin 50)) := by
  unfold wide
  by_cases hh : h.val < 50
  · refine (concatenate_apply_piece (1 : Fin 2) _ _ (ix2 b h) 1 ?_ S16384x50 x ?_ rfl 0 ?_ (ix2 b (⟨h.val, hh⟩ : Fin 50)) ?_ ?_).trans ?_
    · exact (by decide : 1 < 3)
    · rfl
    · rfl
    · intro a ha
      match a with
      | ⟨0, _⟩ => rfl
      | ⟨1, _⟩ => exact absurd rfl ha
    · exact Nat.zero_add _
    · exact congrArg (fun k : Fin 50 => x (ix2 b k)) (Fin.ext (show h.val = min h.val 49 by omega))
  · refine (concatenate_apply_piece (1 : Fin 2) _ _ (ix2 b h) 2 (by exact (by decide : 2 < 3)) S16384x6 _ rfl rfl 50 rfl (ix2 b (⟨h.val - 50, by omega⟩ : Fin 6)) ?_ ?_).trans ?_
    · intro a ha
      match a with
      | ⟨0, _⟩ => rfl
      | ⟨1, _⟩ => exact absurd rfl ha
    · show 50 + (h.val - 50) = h.val; omega
    · rw [lastCol_apply]
      exact congrArg (fun k : Fin 50 => x (ix2 b k)) (Fin.ext (show 49 = min h.val 49 by omega))

/-- The padded table's first 64 columns are the table's. -/
theorem padT_apply (t : S1000000x64.Idx → Elt F .f32) (r : Fin 1000000) (c : Fin 64) :
    padT t (ix2 r (⟨c.val, by omega⟩ : Fin 128)) = t (ix2 r c) := by
  unfold padT
  refine pad_apply_of_inside _ _ _ t _ _ _ _ (ix2 r c) fun a => ?_
  match a with
  | ⟨0, _⟩ => show r.val = 0 + r.val * 1; omega
  | ⟨1, _⟩ => show c.val = 0 + c.val * 1; omega

section Main

variable (m : (ℓ : Loc nD τ sig) → Buf (Elt F) ℓ)

/-- The program's arguments on a device: the row numbers and the table. -/
abbrev x0 (d : Dev nD) : S16384x50.Idx → BitVec 32 := m (d, a0')
abbrev t0 (d : Dev nD) : S1000000x64.Idx → Elt F .f32 := m (d, a1')

/-- The flattened row numbers the call takes. -/
theorem X1_apply (d : Dev nD) (j : Fin 917504) :
    X1 m d (ix1 j) = x0 m d (ix2 (⟨j.val / 56, by omega⟩ : Fin 16384) (⟨min (j.val % 56) 49, by omega⟩ : Fin 50)) := by
  have e : X1 m d = shapeCast S917504 (wide (tall (x0 m d))) shapeCasts_S16384x56_S917504 := after_pre_i (V0 m d)
  rw [e, tall_eq]
  unfold shapeCast
  rw [show Shape.reshapeEquiv shapeCasts_S16384x56_S917504 (ix1 j)
      = (ix2 (⟨j.val / 56, by omega⟩ : Fin 16384) (⟨j.val % 56, Nat.mod_lt _ (by decide)⟩ : Fin 56) : S16384x56.Idx) from
    Shape.reshapeEquiv_eq_of_rowMajor _ (by
      rw [Shape.rowMajor_val_one, Shape.rowMajor_val_two]
      show j.val / 56 * 56 + j.val % 56 = j.val
      omega), wide_apply]

/-- When every row number is a row of the table, so is every one the call takes. -/
theorem X1_lt (hx : ∀ d i, (x0 m d i).toNat < 1000000) (d : Dev nD) (j : S917504.Idx) : (X1 m d j).toNat < 1000000 := by
  have key : ∀ k : Fin 917504, (X1 m d (ix1 k)).toNat < 1000000 := fun k => by rw [X1_apply]; exact hx _ _
  exact lt_of_eq_of_lt (congrArg (fun i => (X1 m d i).toNat) (eq_ix1 j)) (key (j 0))

/-- The result's array at the end is the lookup. -/
theorem V3_r (d : Dev nD) : V3 m d r' = look (t0 m d) (x0 m d) := by
  have e : V3 m d r' = extractStridedSlice S16384x50x64 ![0, 0, 0] (shapeCast S16384x56x128 (V2 m d o') shapeCasts_S917504x128_S16384x56x128) slices_S16384x56x128_S16384x50x64_0_0_0 :=
    after_post_r (V2 m d)
  have eo : V2 m d o' = G (T1 m d) (X1 m d) := Function.update_self ..
  have et : T1 m d = padT (t0 m d) := after_pre_t (V0 m d)
  rw [e, eo, et]
  have key : ∀ (b : Fin 16384) (h : Fin 50) (c : Fin 64),
      extractStridedSlice S16384x50x64 ![0, 0, 0] (shapeCast S16384x56x128 (G (padT (t0 m d)) (X1 m d)) shapeCasts_S917504x128_S16384x56x128) slices_S16384x56x128_S16384x50x64_0_0_0 (ix3 b h c)
        = t0 m d (ix2 (rowNo (x0 m d (ix2 b h))) c) := fun b h c => by
    show shapeCast S16384x56x128 (G (padT (t0 m d)) (X1 m d)) shapeCasts_S917504x128_S16384x56x128 _ = _
    unfold shapeCast
    rw [show Shape.reshapeEquiv shapeCasts_S917504x128_S16384x56x128 _
        = (ix2 (⟨b.val * 56 + h.val, by omega⟩ : Fin 917504) (⟨c.val, by omega⟩ : Fin 128) : S917504x128.Idx) from
      Shape.reshapeEquiv_eq_of_rowMajor _ (by
        rw [Shape.rowMajor_val_two, Shape.rowMajor_val_three]
        show (b.val * 56 + h.val) * 128 + c.val = ((0 + b.val) * 56 + (0 + h.val)) * 128 + (0 + c.val)
        omega)]
    show padT (t0 m d) (ix2 (rowNo (X1 m d (ix1 (⟨b.val * 56 + h.val, by omega⟩ : Fin 917504)))) (⟨c.val, by omega⟩ : Fin 128)) = t0 m d (ix2 (rowNo (x0 m d (ix2 b h))) c)
    rw [padT_apply, X1_apply]
    have e1 : (⟨(b.val * 56 + h.val) / 56, by omega⟩ : Fin 16384) = b := Fin.ext (by show (b.val * 56 + h.val) / 56 = b.val; omega)
    have e2 : (⟨min ((b.val * 56 + h.val) % 56) 49, by omega⟩ : Fin 50) = h := Fin.ext (by show min ((b.val * 56 + h.val) % 56) 49 = h.val; omega)
    exact congrArg₂ (fun p q => t0 m d (ix2 (rowNo (x0 m d (ix2 p q))) c)) e1 e2
  funext i
  exact (congrArg _ (eq_ix3 i)).trans (key (i 0) (i 1) (i 2))

end Main

end Cert.Proof.Lookup

end
-- ==== Proof.Reference.lean ====
/-
  The reference's result, on row numbers below 1000000: the same lookup. And what the precondition says of the row numbers.
-/
module

public import proofs.«01_k».proof.Proof.Values
public import proofs.«01_k».proof.Proof.Gen.ReferenceIdeal.Run
public import proofs.«01_k».proof.Proof.Gen.Pre_in_range
public import Idealize.ShloMosaic.Lib.ReduceAll
public import Idealize.ShloMosaic.Lib.WordCmp
public import Idealize.ShloMosaic.Lib.WordArith

@[expose] public section

noncomputable section

namespace Cert.Proof.Take

open Cert.ReferenceIdeal Cert.ReferenceIdeal.Gen

open Idealize.ShloMosaic Idealize.ShloMosaic.WordCmp
open Cert.Proof.Lookup (look rowNo)

variable {F : FTy → Type} [FloatOps F]

/-! ## One row number -/

/-- A row number is not negative. -/
theorem slt_zero {v : BitVec 32} (h : v.toNat < 1000000) : IntOp.cmpi .slt v 0#32 = 0#1 := by
  rw [cmpi_slt_zero, ofBool_eq_zero_iff]
  exact decide_eq_false (by norm_num; omega)

/-- Read signed, a row number is itself. -/
theorem toInt_eq {v : BitVec 32} (h : v.toNat < 1000000) : v.toInt = (v.toNat : Int) :=
  toInt_eq_toNat_of_lt_half (by norm_num; omega)

/-- A row number passes the reference's range check. -/
theorem inside {v : BitVec 32} (h : v.toNat < 1000000) : IntOp.andi (IntOp.cmpi .sge v 0#32) (IntOp.cmpi .sle v 999999#32) = 1#1 := by
  rw [cmpi_sge_eq, cmpi_sle_eq, andi_ofBool, ofBool_eq_one_iff, toInt_eq h]
  have e0 : (0#32 : BitVec 32).toInt = 0 := rfl
  have e1 : (999999#32 : BitVec 32).toInt = 999999 := rfl
  rw [e0, e1, Bool.and_eq_true, decide_eq_true_eq, decide_eq_true_eq]
  omega

/-! ## The precondition -/

/-- The precondition: every row number is below 1000000. -/
theorem lt_of_pre (x : Pre_in_range.S16384x50.Idx → BitVec 32) (t : Pre_in_range.S1000000x64.Idx → Elt F .f32)
    (h : Cert.Pre_in_range.fn (F := F) x t = fun _ => 1#1) (i : Pre_in_range.S16384x50.Idx) : (x i).toNat < 1000000 := by
  haveI : Subsingleton Pre_in_range.S_.Idx := ⟨fun a b => funext fun k => k.elim0⟩
  have e := Host.reduce_andi_all _ _ _ _ (fun k => k.elim0) (congrFun h fun k => k.elim0) i
  have e' : IntOp.andi (IntOp.cmpi .sge (x i) 0#32) (IntOp.cmpi .slt (x i) (BitVec.ofNat 32 1000000)) = 1#1 := e
  rw [andi_sge_zero_slt_ofNat (by norm_num), ofBool_eq_one_iff] at e'
  exact of_decide_eq_true e'

/-! ## The reference's operations -/

/-- The row numbers after the reference's wrap of negative ones. -/
def wrap (x : S16384x50.Idx → BitVec 32) : S16384x50.Idx → BitVec 32 :=
  select (cmpi .slt x (broadcastInDim S16384x50 ![] bcast_S_S16384x50 (constantI S_ 32 0#32))) (addi x (broadcastInDim S16384x50 ![] bcast_S_S16384x50 (constantI S_ 32 1000000#32))) x

/-- The row numbers as the gather takes them. -/
def col (x : S16384x50.Idx → BitVec 32) : S16384x50x1.Idx → BitVec 32 :=
  broadcastInDim S16384x50x1 ![0, 1] bcast_S16384x50_S16384x50x1_0_1 x

/-- The reference's range check of each row number. -/
def mask (i : S16384x50x1.Idx → BitVec 32) : S16384x50.Idx → BitVec 1 :=
  Host.reduce IntOp.andi (andi (cmpi .sge i (broadcastInDim S16384x50x1 ![] bcast_S_S16384x50x1 (constantI S_ 32 0#32)))
    (cmpi .sle i (broadcastInDim S16384x50x1 ![0, 1, 2] bcast_S1x1x1_S16384x50x1_0_1_2 (broadcastInDim S1x1x1 ![2] bcast_S1_S1x1x1_2 (constantI S1 32 999999#32)))))
    (constantI S_ 1 1#1) reducesTo_S16384x50x1_S16384x50_d2 h_S_

/-- The reference's result. -/
def out (t : S1000000x64.Idx → Elt F .f32) (x : S16384x50.Idx → BitVec 32) : S16384x50x64.Idx → Elt F .f32 :=
  select (broadcastInDim S16384x50x64 ![0, 1] bcast_S16384x50_S16384x50x64_0_1 (mask (col (wrap x))))
    (Host.gather gather_S1000000x64_S16384x50x1_S16384x50x64_2_0_n_n_0_2_164 t (col (wrap x)))
    (broadcastInDim S16384x50x64 ![] bcast_S_S16384x50x64 (constant S_ .f32 0x7FC00000#32))

section InRange

variable {x : S16384x50.Idx → BitVec 32} (hx : ∀ i, (x i).toNat < 1000000)
include hx

/-- Nothing wraps. -/
theorem wrap_eq : wrap x = x := by
  funext i
  show Scalar.select (IntOp.cmpi .slt (x i) 0#32) (IntOp.addi (x i) 1000000#32) (x i) = x i
  rw [slt_zero (hx i)]; rfl

/-- Every row number passes the check. -/
theorem mask_eq : mask (col x) = fun _ => 1#1 := by
  funext j
  refine Host.reduce_andi_one _ _ _ _ j rfl fun i => ?_
  exact inside (hx _)

/-- The gather reads, at `(b, h, c)`, column `c` of the row that row number `(b, h)` names. -/
theorem gather_apply (t : S1000000x64.Idx → Elt F .f32) (b : Fin 16384) (h : Fin 50) (c : Fin 64) :
    Host.gather gather_S1000000x64_S16384x50x1_S16384x50x64_2_0_n_n_0_2_164 t (col x) (ix3 b h c) = t (ix2 (rowNo (x (ix2 b h))) c) := by
  unfold Host.gather
  refine congrArg t (funext fun a => Fin.ext ?_)
  have hs : ∀ k, (gather_S1000000x64_S16384x50x1_S16384x50x64_2_0_n_n_0_2_164).siIdx (ix3 b h c) k = ix3 b h (0 : Fin 1) := fun k => by
    funext e
    refine Fin.ext ?_
    match e with
    | ⟨0, _⟩ => rfl
    | ⟨1, _⟩ => rfl
    | ⟨2, _⟩ => exact Nat.lt_one_iff.mp k.isLt
  have hc : col x (ix3 b h (0 : Fin 1)) = x (ix2 b h) :=
    congrArg x (funext fun e => Fin.ext (match e with | ⟨0, _⟩ => rfl | ⟨1, _⟩ => rfl))
  match a with
  | ⟨0, _⟩ =>
    show min (col x ((gather_S1000000x64_S16384x50x1_S16384x50x64_2_0_n_n_0_2_164).siIdx (ix3 b h c) _)).toInt.toNat (1000000 - 1) + 0 + 0 = (x (ix2 b h)).toNat % 1000000
    rw [hs, hc, toInt_eq (hx _), Int.toNat_natCast]
    have := hx (ix2 b h)
    rw [Nat.mod_eq_of_lt this]; omega
  | ⟨1, _⟩ => show 0 + 0 + c.val = c.val; omega

/-- On row numbers of the table the reference's result is the lookup. -/
theorem out_eq (t : S1000000x64.Idx → Elt F .f32) : out t x = look t x := by
  unfold out
  rw [wrap_eq hx, mask_eq hx]
  funext i
  exact (congrArg _ (eq_ix3 i)).trans (gather_apply hx t (i 0) (i 1) (i 2))

end InRange

end Cert.Proof.Take

end
-- ==== Proof.lean ====
/-
  The embedding lookup: the kernel's run and its result's value, against the reference's.

  The kernel's run, for any interpretation of the floats, is `Lookup.run_main` (Proof/Main.lean); what it leaves in the result
  is `Lookup.V3_r` (Proof/Values.lean). The reference's run is `Cert.ReferenceIdeal.Value.run`; its value is `Take.out_eq`
  (Proof/Reference.lean). Both are the lookup `Lookup.look`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Reference
public import Idealize.ShloMosaic.Adequacy
public import Idealize.ShloMosaic.Init

@[expose] public section

noncomputable section

namespace Cert.Proof

open Idealize.ShloMosaic Idealize.SL.Sem

/-! ## The kernel's two texts are one -/

theorem sig_eq : Cert.Kernel.sig = Cert.KernelIdeal.sig := rfl
theorem defs_eq : Cert.Kernel.defs (F := Bits) = Cert.KernelIdeal.defs (F := Bits) := rfl
theorem threads_eq : Cert.Kernel.threads (F := Bits) = Cert.KernelIdeal.threads (F := Bits) := rfl

/-- The kernel on bit patterns: it runs, keeps its arguments, and ends with every semaphore counter at zero. -/
theorem frame_kernel : Cert.quiescent_Kernel := fun m ρ hpre =>
  (θ_run (Cert.KernelIdeal.defs (F := Bits)) (Cert.KernelIdeal.threads (F := Bits)) _).mono (fun _ h => ⟨fun c => ⟨(h.1 c).1, (h.1 c).2.1⟩, h.2⟩)
    (Lookup.run_main (F := Bits) m ρ (Lookup.X1_lt m fun d => Take.lt_of_pre _ _ (hpre d)))

/-- The kernel on extended reals: the same. -/
theorem frame_kernelIdeal : Cert.quiescent_KernelIdeal := fun m ρ hpre =>
  (θ_run (Cert.KernelIdeal.defs (F := Ideal)) (Cert.KernelIdeal.threads (F := Ideal)) _).mono (fun _ h => ⟨fun c => ⟨(h.1 c).1, (h.1 c).2.1⟩, h.2⟩)
    (Lookup.run_main (F := Ideal) m ρ (Lookup.X1_lt m fun d => Take.lt_of_pre _ _ (hpre d)))

/-- The reference, from any memory: it runs, keeps its arguments, and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from memories whose row numbers are below 1000000. -/
theorem frame_reference_in_range : Cert.quiescent_ReferenceIdeal_pre_in_range := fun m ρ _ => frame_reference m ρ trivial

/-- On extended reals, from the same row numbers and the same table, the kernel and the reference end with the same result: the
    lookup. -/
theorem same_result : Cert.algebraic_KernelIdeal_ReferenceIdeal := fun m ρ m' ρ' hpre hag => by
  have hx : ∀ d i, (Lookup.x0 m d i).toNat < 1000000 := fun d => Take.lt_of_pre _ _ (hpre d)
  refine ⟨fun c => Lookup.look (Lookup.t0 m c) (Lookup.x0 m c), ?_, ?_⟩
  · exact (θ_run (Cert.KernelIdeal.defs (F := Ideal)) (Cert.KernelIdeal.threads (F := Ideal)) _).mono
      (fun _ h c => ⟨(h.1 c).2.2.trans (Lookup.V3_r m c), (h.1 c).1, (h.1 c).2.1⟩)
      (Lookup.run_main (F := Ideal) m ρ (Lookup.X1_lt m hx))
  · refine (θ_run Cert.ReferenceIdeal.defs _ _).mono (fun _ h c => ⟨(h c).1.trans ?_, (h c).2⟩) (Cert.ReferenceIdeal.Value.run (F := Ideal) m' ρ')
    rw [(hag c).1, (hag c).2]
    exact Take.out_eq (F := Ideal) (hx c) (Lookup.t0 m c)

theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_in_range, trivial, same_result⟩

end Cert.Proof

end
